-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S128x512 : Shape := ⟨2, ![128, 512]⟩
abbrev S1x512 : Shape := ⟨2, ![1, 512]⟩
abbrev S10 : Shape := ⟨1, ![10]⟩
abbrev S32 : Shape := ⟨1, ![32]⟩
abbrev S8 : Shape := ⟨1, ![8]⟩
abbrev S4 : Shape := ⟨1, ![4]⟩
abbrev S1 : Shape := ⟨1, ![1]⟩
abbrev S_ : Shape := ⟨0, ![]⟩
abbrev S16x512 : Shape := ⟨2, ![16, 512]⟩
abbrev S1x16x512 : Shape := ⟨3, ![1, 16, 512]⟩
abbrev S16 : Shape := ⟨1, ![16]⟩
abbrev S16x1 : Shape := ⟨2, ![16, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S512, .f32⟩
  | .hbm, ⟨3, _⟩ => ⟨S512x512, .f32⟩
  | .local _ .vmem, ⟨0, _⟩ => ⟨S128x512, .f32⟩
  | .local _ .vmem, ⟨1, _⟩ => ⟨S128x512, .f32⟩
  | .local _ .vmem, ⟨2, _⟩ => ⟨S1x512, .f32⟩
  | .local _ .vmem, ⟨3, _⟩ => ⟨S512x512, .f32⟩
  | .local _ .vmem, ⟨4, _⟩ => ⟨S128x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 106 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | _ => false

abbrev sig : RefSig :=
  (ofTc nBuf bufTy 1 106 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c0_i32_15 : BitVec 32 := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_14 : BitVec 32 := 128#32
  let v25 : BitVec 32 := Scalar.muli v13 c128_i32_14
  let v26 : BitVec 32 := Scalar.addi v25 c0_i32
  let c0_i32_19 : BitVec 32 := 0#32
  ![0, v26.toNat, 0]
def k0_off2 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32 : BitVec 32 := 128#32
  let v24 : BitVec 32 := Scalar.muli v13 c128_i32
  let c0_i32_58 : BitVec 32 := 0#32
  ![v24.toNat, 0]
def k0_dev1 (d0 : Dev nD) : Nat :=
  let c0_i32_63 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_62 : BitVec 32 := 4#32
  let v89 : BitVec 32 := Scalar.muli v9 c4_i32_62
  let v90 : BitVec 32 := Scalar.addi c0_i32_63 v89
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v91 : BitVec 32 := Scalar.muli v5 c2_i32_64
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v93 : BitVec 32 := Scalar.muli v8 c1_i32_65
  let v94 : BitVec 32 := Scalar.addi v92 v93
  v94.toNat
def k0_dev2 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_67 : BitVec 32 := 4#32
  let v95 : BitVec 32 := Scalar.muli v2 c4_i32_67
  let v96 : BitVec 32 := Scalar.addi c0_i32_68 v95
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_69 : BitVec 32 := 2#32
  let v97 : BitVec 32 := Scalar.muli v10 c2_i32_69
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v99 : BitVec 32 := Scalar.muli v8 c1_i32_70
  let v100 : BitVec 32 := Scalar.addi v98 v99
  v100.toNat
def k0_dev3 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v101 : BitVec 32 := Scalar.muli v2 c4_i32_72
  let v102 : BitVec 32 := Scalar.addi c0_i32_73 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v103 : BitVec 32 := Scalar.muli v5 c2_i32_74
  let v104 : BitVec 32 := Scalar.addi v102 v103
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_75 : BitVec 32 := 1#32
  let v105 : BitVec 32 := Scalar.muli v11 c1_i32_75
  let v106 : BitVec 32 := Scalar.addi v104 v105
  v106.toNat
def k0_dev4 (d0 : Dev nD) : Nat :=
  let c0_i32_85 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_84 : BitVec 32 := 4#32
  let v112 : BitVec 32 := Scalar.muli v9 c4_i32_84
  let v113 : BitVec 32 := Scalar.addi c0_i32_85 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_86 : BitVec 32 := 2#32
  let v114 : BitVec 32 := Scalar.muli v5 c2_i32_86
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v116 : BitVec 32 := Scalar.muli v8 c1_i32_87
  let v117 : BitVec 32 := Scalar.addi v115 v116
  v117.toNat
def k0_dev5 (d0 : Dev nD) : Nat :=
  let c0_i32_100 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_99 : BitVec 32 := 4#32
  let v129 : BitVec 32 := Scalar.muli v9 c4_i32_99
  let v130 : BitVec 32 := Scalar.addi c0_i32_100 v129
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v131 : BitVec 32 := Scalar.muli v5 c2_i32_101
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v133 : BitVec 32 := Scalar.muli v8 c1_i32_102
  let v134 : BitVec 32 := Scalar.addi v132 v133
  v134.toNat
def k0_dev6 (d0 : Dev nD) : Nat :=
  let c0_i32_115 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_114 : BitVec 32 := 4#32
  let v146 : BitVec 32 := Scalar.muli v9 c4_i32_114
  let v147 : BitVec 32 := Scalar.addi c0_i32_115 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v148 : BitVec 32 := Scalar.muli v5 c2_i32_116
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v150 : BitVec 32 := Scalar.muli v8 c1_i32_117
  let v151 : BitVec 32 := Scalar.addi v149 v150
  v151.toNat
def k0_dev7 (d0 : Dev nD) : Nat :=
  let c0_i32_130 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_129 : BitVec 32 := 4#32
  let v163 : BitVec 32 := Scalar.muli v9 c4_i32_129
  let v164 : BitVec 32 := Scalar.addi c0_i32_130 v163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v165 : BitVec 32 := Scalar.muli v5 c2_i32_131
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v167 : BitVec 32 := Scalar.muli v8 c1_i32_132
  let v168 : BitVec 32 := Scalar.addi v166 v167
  v168.toNat
def k0_dev8 (d0 : Dev nD) : Nat :=
  let c0_i32_145 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_144 : BitVec 32 := 4#32
  let v180 : BitVec 32 := Scalar.muli v9 c4_i32_144
  let v181 : BitVec 32 := Scalar.addi c0_i32_145 v180
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v182 : BitVec 32 := Scalar.muli v5 c2_i32_146
  let v183 : BitVec 32 := Scalar.addi v181 v182
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v184 : BitVec 32 := Scalar.muli v8 c1_i32_147
  let v185 : BitVec 32 := Scalar.addi v183 v184
  v185.toNat
def k0_dev9 (d0 : Dev nD) : Nat :=
  let c0_i32_160 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_159 : BitVec 32 := 4#32
  let v197 : BitVec 32 := Scalar.muli v9 c4_i32_159
  let v198 : BitVec 32 := Scalar.addi c0_i32_160 v197
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v199 : BitVec 32 := Scalar.muli v5 c2_i32_161
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v201 : BitVec 32 := Scalar.muli v8 c1_i32_162
  let v202 : BitVec 32 := Scalar.addi v200 v201
  v202.toNat
def k0_dev10 (d0 : Dev nD) : Nat :=
  let c0_i32_175 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_174 : BitVec 32 := 4#32
  let v214 : BitVec 32 := Scalar.muli v9 c4_i32_174
  let v215 : BitVec 32 := Scalar.addi c0_i32_175 v214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_176 : BitVec 32 := 2#32
  let v216 : BitVec 32 := Scalar.muli v5 c2_i32_176
  let v217 : BitVec 32 := Scalar.addi v215 v216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v218 : BitVec 32 := Scalar.muli v8 c1_i32_177
  let v219 : BitVec 32 := Scalar.addi v217 v218
  v219.toNat
def k0_dev11 (d0 : Dev nD) : Nat :=
  let c0_i32_190 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_189 : BitVec 32 := 4#32
  let v231 : BitVec 32 := Scalar.muli v9 c4_i32_189
  let v232 : BitVec 32 := Scalar.addi c0_i32_190 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_191 : BitVec 32 := 2#32
  let v233 : BitVec 32 := Scalar.muli v5 c2_i32_191
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_192 : BitVec 32 := 1#32
  let v235 : BitVec 32 := Scalar.muli v8 c1_i32_192
  let v236 : BitVec 32 := Scalar.addi v234 v235
  v236.toNat
def k0_off3 (d0 : Dev nD) (c0_i32_213 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_212 : BitVec 32 := 128#32
  let v260 : BitVec 32 := Scalar.muli v13 c128_i32_212
  let v261 : BitVec 32 := Scalar.addi v260 c0_i32_213
  let v280 : Index := Scalar.indexCast v261
  let c0_223 : Index := 0#32
  ![v280.toNat, 0]
def k0_off4 (d0 : Dev nD) (c0_i32_213 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_212 : BitVec 32 := 128#32
  let v260 : BitVec 32 := Scalar.muli v13 c128_i32_212
  let v261 : BitVec 32 := Scalar.addi v260 c0_i32_213
  let c0_i32_230 : BitVec 32 := 0#32
  ![v261.toNat, 0]
def k0_dev12 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v284 : BitVec 32 := Scalar.muli v2 c4_i32_226
  let v285 : BitVec 32 := Scalar.addi c0_i32_227 v284
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_228 : BitVec 32 := 2#32
  let v286 : BitVec 32 := Scalar.muli v10 c2_i32_228
  let v287 : BitVec 32 := Scalar.addi v285 v286
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v288 : BitVec 32 := Scalar.muli v8 c1_i32_229
  let v289 : BitVec 32 := Scalar.addi v287 v288
  v289.toNat
def k0_dev13 (d0 : Dev nD) : Nat :=
  let c0_i32_235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_234 : BitVec 32 := 4#32
  let v296 : BitVec 32 := Scalar.muli v2 c4_i32_234
  let v297 : BitVec 32 := Scalar.addi c0_i32_235 v296
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_236 : BitVec 32 := 2#32
  let v298 : BitVec 32 := Scalar.muli v5 c2_i32_236
  let v299 : BitVec 32 := Scalar.addi v297 v298
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_237 : BitVec 32 := 1#32
  let v300 : BitVec 32 := Scalar.muli v11 c1_i32_237
  let v301 : BitVec 32 := Scalar.addi v299 v300
  v301.toNat
def k0_dev14 (d0 : Dev nD) : Nat :=
  let c0_i32_271 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_270 : BitVec 32 := 4#32
  let v348 : BitVec 32 := Scalar.muli v2 c4_i32_270
  let v349 : BitVec 32 := Scalar.addi c0_i32_271 v348
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_272 : BitVec 32 := 2#32
  let v350 : BitVec 32 := Scalar.muli v10 c2_i32_272
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_273 : BitVec 32 := 1#32
  let v352 : BitVec 32 := Scalar.muli v8 c1_i32_273
  let v353 : BitVec 32 := Scalar.addi v351 v352
  v353.toNat
def k0_dev15 (d0 : Dev nD) : Nat :=
  let c0_i32_279 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_278 : BitVec 32 := 4#32
  let v360 : BitVec 32 := Scalar.muli v2 c4_i32_278
  let v361 : BitVec 32 := Scalar.addi c0_i32_279 v360
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_280 : BitVec 32 := 2#32
  let v362 : BitVec 32 := Scalar.muli v5 c2_i32_280
  let v363 : BitVec 32 := Scalar.addi v361 v362
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_281 : BitVec 32 := 1#32
  let v364 : BitVec 32 := Scalar.muli v11 c1_i32_281
  let v365 : BitVec 32 := Scalar.addi v363 v364
  v365.toNat
def k0_dev16 (d0 : Dev nD) : Nat :=
  let c0_i32_315 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_314 : BitVec 32 := 4#32
  let v412 : BitVec 32 := Scalar.muli v2 c4_i32_314
  let v413 : BitVec 32 := Scalar.addi c0_i32_315 v412
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_316 : BitVec 32 := 2#32
  let v414 : BitVec 32 := Scalar.muli v10 c2_i32_316
  let v415 : BitVec 32 := Scalar.addi v413 v414
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_317 : BitVec 32 := 1#32
  let v416 : BitVec 32 := Scalar.muli v8 c1_i32_317
  let v417 : BitVec 32 := Scalar.addi v415 v416
  v417.toNat
def k0_dev17 (d0 : Dev nD) : Nat :=
  let c0_i32_323 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_322 : BitVec 32 := 4#32
  let v424 : BitVec 32 := Scalar.muli v2 c4_i32_322
  let v425 : BitVec 32 := Scalar.addi c0_i32_323 v424
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_324 : BitVec 32 := 2#32
  let v426 : BitVec 32 := Scalar.muli v5 c2_i32_324
  let v427 : BitVec 32 := Scalar.addi v425 v426
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_325 : BitVec 32 := 1#32
  let v428 : BitVec 32 := Scalar.muli v11 c1_i32_325
  let v429 : BitVec 32 := Scalar.addi v427 v428
  v429.toNat
def k0_dev18 (d0 : Dev nD) : Nat :=
  let c0_i32_359 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_358 : BitVec 32 := 4#32
  let v476 : BitVec 32 := Scalar.muli v2 c4_i32_358
  let v477 : BitVec 32 := Scalar.addi c0_i32_359 v476
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_360 : BitVec 32 := 2#32
  let v478 : BitVec 32 := Scalar.muli v10 c2_i32_360
  let v479 : BitVec 32 := Scalar.addi v477 v478
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_361 : BitVec 32 := 1#32
  let v480 : BitVec 32 := Scalar.muli v8 c1_i32_361
  let v481 : BitVec 32 := Scalar.addi v479 v480
  v481.toNat
def k0_dev19 (d0 : Dev nD) : Nat :=
  let c0_i32_367 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_366 : BitVec 32 := 4#32
  let v488 : BitVec 32 := Scalar.muli v2 c4_i32_366
  let v489 : BitVec 32 := Scalar.addi c0_i32_367 v488
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_368 : BitVec 32 := 2#32
  let v490 : BitVec 32 := Scalar.muli v5 c2_i32_368
  let v491 : BitVec 32 := Scalar.addi v489 v490
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_369 : BitVec 32 := 1#32
  let v492 : BitVec 32 := Scalar.muli v11 c1_i32_369
  let v493 : BitVec 32 := Scalar.addi v491 v492
  v493.toNat
def k0_dev20 (d0 : Dev nD) : Nat :=
  let c0_i32_403 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_402 : BitVec 32 := 4#32
  let v540 : BitVec 32 := Scalar.muli v2 c4_i32_402
  let v541 : BitVec 32 := Scalar.addi c0_i32_403 v540
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_404 : BitVec 32 := 2#32
  let v542 : BitVec 32 := Scalar.muli v10 c2_i32_404
  let v543 : BitVec 32 := Scalar.addi v541 v542
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_405 : BitVec 32 := 1#32
  let v544 : BitVec 32 := Scalar.muli v8 c1_i32_405
  let v545 : BitVec 32 := Scalar.addi v543 v544
  v545.toNat
def k0_dev21 (d0 : Dev nD) : Nat :=
  let c0_i32_411 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_410 : BitVec 32 := 4#32
  let v552 : BitVec 32 := Scalar.muli v2 c4_i32_410
  let v553 : BitVec 32 := Scalar.addi c0_i32_411 v552
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_412 : BitVec 32 := 2#32
  let v554 : BitVec 32 := Scalar.muli v5 c2_i32_412
  let v555 : BitVec 32 := Scalar.addi v553 v554
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_413 : BitVec 32 := 1#32
  let v556 : BitVec 32 := Scalar.muli v11 c1_i32_413
  let v557 : BitVec 32 := Scalar.addi v555 v556
  v557.toNat
def k0_dev22 (d0 : Dev nD) : Nat :=
  let c0_i32_447 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_446 : BitVec 32 := 4#32
  let v604 : BitVec 32 := Scalar.muli v2 c4_i32_446
  let v605 : BitVec 32 := Scalar.addi c0_i32_447 v604
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_448 : BitVec 32 := 2#32
  let v606 : BitVec 32 := Scalar.muli v10 c2_i32_448
  let v607 : BitVec 32 := Scalar.addi v605 v606
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_449 : BitVec 32 := 1#32
  let v608 : BitVec 32 := Scalar.muli v8 c1_i32_449
  let v609 : BitVec 32 := Scalar.addi v607 v608
  v609.toNat
def k0_dev23 (d0 : Dev nD) : Nat :=
  let c0_i32_455 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_454 : BitVec 32 := 4#32
  let v616 : BitVec 32 := Scalar.muli v2 c4_i32_454
  let v617 : BitVec 32 := Scalar.addi c0_i32_455 v616
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_456 : BitVec 32 := 2#32
  let v618 : BitVec 32 := Scalar.muli v5 c2_i32_456
  let v619 : BitVec 32 := Scalar.addi v617 v618
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_457 : BitVec 32 := 1#32
  let v620 : BitVec 32 := Scalar.muli v11 c1_i32_457
  let v621 : BitVec 32 := Scalar.addi v619 v620
  v621.toNat
def k0_dev24 (d0 : Dev nD) : Nat :=
  let c0_i32_491 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_490 : BitVec 32 := 4#32
  let v668 : BitVec 32 := Scalar.muli v2 c4_i32_490
  let v669 : BitVec 32 := Scalar.addi c0_i32_491 v668
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_492 : BitVec 32 := 2#32
  let v670 : BitVec 32 := Scalar.muli v10 c2_i32_492
  let v671 : BitVec 32 := Scalar.addi v669 v670
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_493 : BitVec 32 := 1#32
  let v672 : BitVec 32 := Scalar.muli v8 c1_i32_493
  let v673 : BitVec 32 := Scalar.addi v671 v672
  v673.toNat
def k0_dev25 (d0 : Dev nD) : Nat :=
  let c0_i32_499 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_498 : BitVec 32 := 4#32
  let v680 : BitVec 32 := Scalar.muli v2 c4_i32_498
  let v681 : BitVec 32 := Scalar.addi c0_i32_499 v680
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_500 : BitVec 32 := 2#32
  let v682 : BitVec 32 := Scalar.muli v5 c2_i32_500
  let v683 : BitVec 32 := Scalar.addi v681 v682
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_501 : BitVec 32 := 1#32
  let v684 : BitVec 32 := Scalar.muli v11 c1_i32_501
  let v685 : BitVec 32 := Scalar.addi v683 v684
  v685.toNat
def k0_dev26 (d0 : Dev nD) : Nat :=
  let c0_i32_535 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_534 : BitVec 32 := 4#32
  let v732 : BitVec 32 := Scalar.muli v2 c4_i32_534
  let v733 : BitVec 32 := Scalar.addi c0_i32_535 v732
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_536 : BitVec 32 := 2#32
  let v734 : BitVec 32 := Scalar.muli v10 c2_i32_536
  let v735 : BitVec 32 := Scalar.addi v733 v734
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_537 : BitVec 32 := 1#32
  let v736 : BitVec 32 := Scalar.muli v8 c1_i32_537
  let v737 : BitVec 32 := Scalar.addi v735 v736
  v737.toNat
def k0_dev27 (d0 : Dev nD) : Nat :=
  let c0_i32_543 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_542 : BitVec 32 := 4#32
  let v744 : BitVec 32 := Scalar.muli v2 c4_i32_542
  let v745 : BitVec 32 := Scalar.addi c0_i32_543 v744
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_544 : BitVec 32 := 2#32
  let v746 : BitVec 32 := Scalar.muli v5 c2_i32_544
  let v747 : BitVec 32 := Scalar.addi v745 v746
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_545 : BitVec 32 := 1#32
  let v748 : BitVec 32 := Scalar.muli v11 c1_i32_545
  let v749 : BitVec 32 := Scalar.addi v747 v748
  v749.toNat
def k0_off5 (d0 : Dev nD) (c0_i32_562 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c128_i32_561 : BitVec 32 := 128#32
  let v772 : BitVec 32 := Scalar.muli v19 c128_i32_561
  let v773 : BitVec 32 := Scalar.addi v772 c0_i32_562
  let c0_i32_564 : BitVec 32 := 0#32
  ![v773.toNat, 0]
def k0_dev28 (d0 : Dev nD) : Nat :=
  let c0_i32_573 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_572 : BitVec 32 := 4#32
  let v782 : BitVec 32 := Scalar.muli v2 c4_i32_572
  let v783 : BitVec 32 := Scalar.addi c0_i32_573 v782
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_574 : BitVec 32 := 2#32
  let v784 : BitVec 32 := Scalar.muli v10 c2_i32_574
  let v785 : BitVec 32 := Scalar.addi v783 v784
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_575 : BitVec 32 := 1#32
  let v786 : BitVec 32 := Scalar.muli v8 c1_i32_575
  let v787 : BitVec 32 := Scalar.addi v785 v786
  v787.toNat
def k0_off6 (d0 : Dev nD) (c16_i32_587 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c128_i32_586 : BitVec 32 := 128#32
  let v804 : BitVec 32 := Scalar.muli v16 c128_i32_586
  let v805 : BitVec 32 := Scalar.addi v804 c16_i32_587
  let c0_i32_589 : BitVec 32 := 0#32
  ![v805.toNat, 0]
def k0_dev29 (d0 : Dev nD) : Nat :=
  let c0_i32_598 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_597 : BitVec 32 := 4#32
  let v814 : BitVec 32 := Scalar.muli v2 c4_i32_597
  let v815 : BitVec 32 := Scalar.addi c0_i32_598 v814
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_599 : BitVec 32 := 2#32
  let v816 : BitVec 32 := Scalar.muli v5 c2_i32_599
  let v817 : BitVec 32 := Scalar.addi v815 v816
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_600 : BitVec 32 := 1#32
  let v818 : BitVec 32 := Scalar.muli v11 c1_i32_600
  let v819 : BitVec 32 := Scalar.addi v817 v818
  v819.toNat
def k0_dev30 (d0 : Dev nD) : Nat :=
  let c0_i32_622 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_621 : BitVec 32 := 4#32
  let v846 : BitVec 32 := Scalar.muli v2 c4_i32_621
  let v847 : BitVec 32 := Scalar.addi c0_i32_622 v846
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_623 : BitVec 32 := 2#32
  let v848 : BitVec 32 := Scalar.muli v10 c2_i32_623
  let v849 : BitVec 32 := Scalar.addi v847 v848
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_624 : BitVec 32 := 1#32
  let v850 : BitVec 32 := Scalar.muli v8 c1_i32_624
  let v851 : BitVec 32 := Scalar.addi v849 v850
  v851.toNat
def k0_dev31 (d0 : Dev nD) : Nat :=
  let c0_i32_646 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_645 : BitVec 32 := 4#32
  let v878 : BitVec 32 := Scalar.muli v2 c4_i32_645
  let v879 : BitVec 32 := Scalar.addi c0_i32_646 v878
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_647 : BitVec 32 := 2#32
  let v880 : BitVec 32 := Scalar.muli v5 c2_i32_647
  let v881 : BitVec 32 := Scalar.addi v879 v880
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_648 : BitVec 32 := 1#32
  let v882 : BitVec 32 := Scalar.muli v11 c1_i32_648
  let v883 : BitVec 32 := Scalar.addi v881 v882
  v883.toNat
def k0_dev32 (d0 : Dev nD) : Nat :=
  let c0_i32_670 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_669 : BitVec 32 := 4#32
  let v910 : BitVec 32 := Scalar.muli v2 c4_i32_669
  let v911 : BitVec 32 := Scalar.addi c0_i32_670 v910
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_671 : BitVec 32 := 2#32
  let v912 : BitVec 32 := Scalar.muli v10 c2_i32_671
  let v913 : BitVec 32 := Scalar.addi v911 v912
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_672 : BitVec 32 := 1#32
  let v914 : BitVec 32 := Scalar.muli v8 c1_i32_672
  let v915 : BitVec 32 := Scalar.addi v913 v914
  v915.toNat
def k0_dev33 (d0 : Dev nD) : Nat :=
  let c0_i32_694 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_693 : BitVec 32 := 4#32
  let v942 : BitVec 32 := Scalar.muli v2 c4_i32_693
  let v943 : BitVec 32 := Scalar.addi c0_i32_694 v942
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_695 : BitVec 32 := 2#32
  let v944 : BitVec 32 := Scalar.muli v5 c2_i32_695
  let v945 : BitVec 32 := Scalar.addi v943 v944
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_696 : BitVec 32 := 1#32
  let v946 : BitVec 32 := Scalar.muli v11 c1_i32_696
  let v947 : BitVec 32 := Scalar.addi v945 v946
  v947.toNat
def k0_dev34 (d0 : Dev nD) : Nat :=
  let c0_i32_718 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_717 : BitVec 32 := 4#32
  let v974 : BitVec 32 := Scalar.muli v2 c4_i32_717
  let v975 : BitVec 32 := Scalar.addi c0_i32_718 v974
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_719 : BitVec 32 := 2#32
  let v976 : BitVec 32 := Scalar.muli v10 c2_i32_719
  let v977 : BitVec 32 := Scalar.addi v975 v976
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_720 : BitVec 32 := 1#32
  let v978 : BitVec 32 := Scalar.muli v8 c1_i32_720
  let v979 : BitVec 32 := Scalar.addi v977 v978
  v979.toNat
def k0_dev35 (d0 : Dev nD) : Nat :=
  let c0_i32_742 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_741 : BitVec 32 := 4#32
  let v1006 : BitVec 32 := Scalar.muli v2 c4_i32_741
  let v1007 : BitVec 32 := Scalar.addi c0_i32_742 v1006
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_743 : BitVec 32 := 2#32
  let v1008 : BitVec 32 := Scalar.muli v5 c2_i32_743
  let v1009 : BitVec 32 := Scalar.addi v1007 v1008
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_744 : BitVec 32 := 1#32
  let v1010 : BitVec 32 := Scalar.muli v11 c1_i32_744
  let v1011 : BitVec 32 := Scalar.addi v1009 v1010
  v1011.toNat
def k0_off7 (d0 : Dev nD) (c0_i32_853 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c128_i32_852 : BitVec 32 := 128#32
  let v1156 : BitVec 32 := Scalar.muli v23 c128_i32_852
  let v1157 : BitVec 32 := Scalar.addi v1156 c0_i32_853
  let c0_i32_854 : BitVec 32 := 0#32
  ![v1157.toNat, 0]
-- ==== ReferenceIdeal.lean ====
abbrev S2x512x512 : Shape := ⟨3, ![2, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x512, .f32⟩
  | .hbm, ⟨18, _⟩ => ⟨S512x512, .f32⟩
  | .hbm, ⟨19, _⟩ => ⟨S1x512, .f32⟩
  | .hbm, ⟨20, _⟩ => ⟨S512x512, .f32⟩
  | .hbm, ⟨21, _⟩ => ⟨S512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Prog.lean ====
module

public import proofs.«01_k».proof.Proof.Gen.KernelIdeal.Skeleton
public import proofs.«01_k».proof.Proof.Gen.KernelIdeal.Launch

/-! # The kernel body, written once per step

The printed kernel is one straight line: each of its loops over the eight 16-row chunks of a
128-row quarter appears unrolled.  Here the same line is written as loops over the chunk number,
every operation in the words of the chunk it handles, and `body_eq` says the two are the same
program.  All later reasoning is about the loops. -/
@[expose] public section

noncomputable section

namespace Cert.ArLn

open Idealize.ShloMosaic Idealize.ShloMosaic.TcCoe Idealize.SL.Sem
open Cert.KernelIdeal Cert.KernelIdeal.Gen

variable {F : FTy → Type} [FloatOps F]

/-- Programs of a TensorCore. -/
abbrev TcProg (F : FTy → Type) [FloatOps F] (α : Type) := Prog (TpuEff nD τ sig (Elt F) Λ₀ .tc) α

/-- The two mesh axes along which finished quarters travel. -/
inductive Ax
  | y
  | z
  deriving DecidableEq

/-- The other of the two axes. -/
def Ax.other : Ax → Ax
  | .y => .z
  | .z => .y

/-- The axis along which chunk `j` of a received quarter is forwarded: even chunks along `y`,
odd ones along `z`. -/
def axOf (j : Fin 8) : Ax := if j.val % 2 = 0 then .y else .z

/-- A quarter relative to a device's own: `0` its own, `rel a` that of its neighbour on axis `a`,
`3` that of the device diagonally across. -/
def rel : Ax → Fin 4
  | .y => 2
  | .z => 1

/-- The DMA semaphores, by what they count. -/
inductive Cell
  /-- chunk `j` of the device's partial sum staged into fast memory -/
  | inp (j : Fin 8)
  /-- the residual's quarter staged -/
  | inR
  /-- the weight row staged -/
  | inG
  /-- chunk `j` of relative quarter `r` written to the result -/
  | out (r : Fin 4) (j : Fin 8)
  /-- chunk `j` sent along `x` / received from there -/
  | rsS (j : Fin 8)
  | rsR (j : Fin 8)
  /-- finished chunk `j` of the own quarter sent along `a` / received from there -/
  | s1 (a : Ax) (j : Fin 8)
  | r1 (a : Ax) (j : Fin 8)
  /-- chunk `j` of a neighbour's quarter forwarded / received -/
  | s2 (j : Fin 8)
  | r2 (j : Fin 8)
  deriving DecidableEq

/-- The group of output semaphores in which chunk `j` of relative quarter `r` is counted. -/
def outGrp (r : Fin 4) (j : Fin 8) : Nat :=
  if r = 1 then (if axOf j = .y then 1 else 2)
  else if r = 2 then (if axOf j = .y then 2 else 1)
  else r.val

/-- The number of a semaphore in the device's semaphore file. -/
def code : Cell → Nat
  | .inp j => j.val
  | .inR => 8
  | .inG => 9
  | .out r j => 10 + 8 * outGrp r j + j.val
  | .rsS j => 42 + j.val
  | .rsR j => 50 + j.val
  | .s1 .y j => 58 + j.val
  | .r1 .y j => 66 + j.val
  | .s1 .z j => 74 + j.val
  | .r1 .z j => 82 + j.val
  | .s2 j => (if axOf j = .y then 90 else 98) + j.val / 2
  | .r2 j => (if axOf j = .y then 94 else 102) + j.val / 2

/-- There are four groups of output semaphores. -/
theorem outGrp_lt : ∀ r j, outGrp r j < 4 := by decide

/-- Every number lies in the semaphore file. -/
theorem code_lt (x : Cell) : code x < 106 := by
  cases x with
  | out r j => have := outGrp_lt r j; simp only [code]; omega
  | s1 a j => cases a <;> simp only [code] <;> omega
  | r1 a j => cases a <;> simp only [code] <;> omega
  | s2 j => simp only [code]; split <;> omega
  | r2 j => simp only [code]; split <;> omega
  | _ => simp only [code]; omega

/-- The semaphore. -/
def dsem (x : Cell) : DmaSem sig := ⟨code x, code_lt x⟩

/-- The barrier semaphore. -/
def bsem : Sem sig := sig.barrier 0 rfl

/-! ## The pieces of the buffers -/

/-- The partial sum. -/
abbrev mP : Memref sig .tc .hbm S1x512x512 .f32 := Memref.whole main_arg0
/-- The residual. -/
abbrev mR : Memref sig .tc .hbm S512x512 .f32 := Memref.whole main_arg1
/-- The weights. -/
abbrev mG : Memref sig .tc .hbm S512 .f32 := Memref.whole main_arg2
/-- The result. -/
abbrev mO : Memref sig .tc .hbm S512x512 .f32 := Memref.whole main_v1
/-- The staged partial sum. -/
abbrev bX : Memref sig .tc .vmem S128x512 .f32 := Memref.whole cc0_scratch0
/-- The staged residual. -/
abbrev bR : Memref sig .tc .vmem S128x512 .f32 := Memref.whole cc0_scratch1
/-- The staged weight row. -/
abbrev bG : Memref sig .tc .vmem S1x512 .f32 := Memref.whole cc0_scratch2
/-- The finished rows. -/
abbrev bV : Memref sig .tc .vmem S512x512 .f32 := Memref.whole cc0_scratch3
/-- The partial sum from across `x`. -/
abbrev bS : Memref sig .tc .vmem S128x512 .f32 := Memref.whole cc0_scratch4

/-- A 16-row rectangle of a 512-row array at the offset `o`. -/
abbrev rect512 (o : Fin 2 → Nat) (h : ∀ a, o a + S16x512.size a ≤ S512x512.size a) : Rect S512x512 :=
  Rect.unit (s := S512x512) o S16x512.size h
/-- A 16-row rectangle of a 128-row array at the offset `o`. -/
abbrev rect128 (o : Fin 2 → Nat) (h : ∀ a, o a + S16x512.size a ≤ S128x512.size a) : Rect S128x512 :=
  Rect.unit (s := S128x512) o S16x512.size h

/-- A chunk lies within a quarter. -/
theorem inb128 (j : Fin 8) : ∀ a, (![16 * j.val, 0] : Fin 2 → Nat) a + S16x512.size a ≤ S128x512.size a := by
  revert j; decide

/-- Chunk `j` of the staged partial sum. -/
def xS (j : Fin 8) : Memref sig .tc .vmem S16x512 .f32 := bX.slice (rect128 ![16 * j.val, 0] (inb128 j)) (fun _ => rfl)
/-- Chunk `j` of the buffer the `x` neighbour's partial sum lands in. -/
def sS (j : Fin 8) : Memref sig .tc .vmem S16x512 .f32 := bS.slice (rect128 ![16 * j.val, 0] (inb128 j)) (fun _ => rfl)
/-- The weight row's staging buffer as a vector. -/
def gS : Memref sig .tc .vmem S512 .f32 :=
  (bG.slice (Rect.unit (s := S1x512) ![0, 0] S1x512.size inb_S1x512_S1x512_0_0) (fun _ => rfl)).squeeze S512 squeezes_S1x512_S512
/-- 16 rows of the buffer of finished rows. -/
def vS (o : Fin 2 → Nat) (h : ∀ a, o a + S16x512.size a ≤ S512x512.size a) : Memref sig .tc .vmem S16x512 .f32 :=
  bV.slice (rect512 o h) (fun _ => rfl)
/-- 16 rows of the result. -/
def oS (o : Fin 2 → Nat) (h : ∀ a, o a + S16x512.size a ≤ S512x512.size a) : Memref sig .tc .hbm S16x512 .f32 :=
  mO.slice (rect512 o h) (fun _ => rfl)
/-- 16 rows of the partial sum. -/
def pS (o : Fin 3 → Nat) (h : ∀ a, o a + S1x16x512.size a ≤ S1x512x512.size a) : Memref sig .tc .hbm S16x512 .f32 :=
  (mP.slice (Rect.unit (s := S1x512x512) o S1x16x512.size h) (fun _ => rfl)).squeeze S16x512 squeezes_S1x16x512_S16x512
/-- 128 rows of the residual. -/
def rS (o : Fin 2 → Nat) (h : ∀ a, o a + S128x512.size a ≤ S512x512.size a) : Memref sig .tc .hbm S128x512 .f32 :=
  mR.slice (Rect.unit (s := S512x512) o S128x512.size h) (fun _ => rfl)

/-- The chunk offset's word. -/
abbrev chunkW (j : Fin 8) : BitVec 32 := BitVec.ofNat 32 (16 * j.val)

/-- The offset of chunk `j` of relative quarter `r`, as the kernel computes it. -/
def offP (d : Dev nD) (r : Fin 4) (j : Fin 8) : Fin 2 → Nat :=
  match r with
  | 0 => k0_off4 d (chunkW j)
  | 1 => k0_off5 d (chunkW j)
  | 2 => k0_off6 d (chunkW j)
  | 3 => k0_off7 d (chunkW j)

/-- Every computed chunk lies within the 512 rows. -/
theorem offP_inb (d : Dev nD) (r : Fin 4) (j : Fin 8) : ∀ a, offP d r j a + S16x512.size a ≤ S512x512.size a :=
  match r with
  | 0 => k0_off4_inb d j
  | 1 => k0_off5_inb d j
  | 2 => k0_off6_inb d j
  | 3 => k0_off7_inb d j

/-- The neighbour along `x`, as the kernel computes it. -/
def xDev (d : Dev nD) : Dev nD := ⟨k0_dev1 d, k0_dev1_lt d⟩
/-- The neighbour along the axis `a`, as the kernel computes it. -/
def aDev (a : Ax) (d : Dev nD) : Dev nD :=
  match a with
  | .y => ⟨k0_dev2 d, k0_dev2_lt d⟩
  | .z => ⟨k0_dev3 d, k0_dev3_lt d⟩

/-! ## The operations -/

section Ops
variable {sp sp' : Space} {s : Shape}

/-- A copy within the device. -/
def pCopy (src : Memref sig .tc sp s .f32) (dst : Memref sig .tc sp' s .f32) (x : Cell)
    (h : (DmaTarget.here dst : DmaTarget nD τ sig .tc sp' s .f32).Typed sp (.dma (dsem x))) : TcProg F PUnit :=
  Prog.lift (.enqueueDma src (.here dst) (.dma (dsem x)) (View.wordExact_bits rfl) (View.wordExact_bits rfl) h)

/-- A copy between the fast memories of two devices. -/
def pSend (n : Dev nD) (src dst : Memref sig .tc .vmem s .f32) (x x' : Cell) : TcProg F PUnit :=
  Prog.lift (.enqueueDma src (.remote (Dev.tc n) dst (.dma (dsem x))) (.dma (dsem x')) (View.wordExact_bits rfl)
    (View.wordExact_bits rfl) ⟨⟨rfl, Or.inl rfl⟩, trivial⟩)

/-- A wait for the amount of a copy into `dst`. -/
def pWait (x : Cell) (dst : Memref sig .tc sp s .f32) : TcProg F PUnit :=
  Prog.lift (.waitDma2 (dsem x) dst dst (View.wordExact_bits rfl) (View.wordExact_bits rfl))

/-- A load of 16 rows of a 128-row buffer. -/
def pLoad (b : Memref sig .tc .vmem S128x512 .f32) (j : Fin 8) : TcProg F (Vec F S16x512 .f32) :=
  Prog.lift (.load b (rect128 ![16 * j.val, 0] (inb128 j)).toLoadRect (View.loadsAt_vmem h_S16x512))

end Ops

/-- The same program for each element of a list. -/
def each {ι : Type} (l : List ι) (b : ι → TcProg F PUnit) : TcProg F PUnit :=
  match l with
  | [] => pure ⟨⟩
  | i :: l => b i >>= fun _ => each l b

/-- The eight chunks. -/
abbrev chunks : List (Fin 8) := [0, 1, 2, 3, 4, 5, 6, 7]

section Phases
variable (d : Dev nD)

/-- Chunk `j` of relative quarter `r` of the finished rows, at the computed offset. -/
abbrev vP (r : Fin 4) (j : Fin 8) : Memref sig .tc .vmem S16x512 .f32 := vS (offP d r j) (offP_inb d r j)
/-- The same chunk of the result. -/
abbrev oP (r : Fin 4) (j : Fin 8) : Memref sig .tc .hbm S16x512 .f32 := oS (offP d r j) (offP_inb d r j)

/-- Write chunk `j` of relative quarter `r` to the result. -/
def outCopy (r : Fin 4) (j : Fin 8) : TcProg F PUnit :=
  pCopy (vP d r j) (oP d r j) (.out r j) ⟨Or.inl rfl, trivial⟩

/-- Stage chunk `j` of the partial sum. -/
def stage (j : Fin 8) : TcProg F PUnit :=
  pCopy (pS (k0_off1 d (chunkW j)) (k0_off1_inb d j)) (xS j) (.inp j) ⟨Or.inl rfl, trivial⟩

/-- Send chunk `j` along `x` once it is staged. -/
def exchange (j : Fin 8) : Prog (TpuEff nD τ sig (Elt F) Λ₀ .tc) PUnit := do
  pWait (.inp j) (xS j)
  pSend (xDev d) (xS j) (sS j) (.rsS j) (.rsR j)

/-- Compute chunk `j` of the own quarter. -/
def compute (j : Fin 8) : Prog (TpuEff nD τ sig (Elt F) Λ₀ .tc) PUnit := do
  let v ← pLoad bX j
  let w ← pLoad bS j
  let r ← pLoad bR j
  let g ← Prog.lift (.load bG (Rect.unit (s := S1x512) ![0, 0] S1x512.size inb_S1x512_S1x512_0_0).toLoadRect (View.loadsAt_vmem h_S1x512))
  let _ ← Prog.lift (.load bV (rect512 (k0_off3 d (chunkW j)) (k0_off3_inb d j)).toLoadRect (View.loadsAt_vmem h_S16x512))
  Prog.lift (.store bV (rect512 (k0_off3 d (chunkW j)) (k0_off3_inb d j)) (k0_pay12 v w r g) Finset.univ (View.stores_vmem_bits_univ h_S16x512 rfl) (.inl rfl))

/-- Send finished chunk `j` along the axis `a`. -/
def share (a : Ax) (j : Fin 8) : TcProg F PUnit :=
  pSend (aDev a d) (vP d 0 j) (vP d 0 j) (.s1 a j) (.r1 a j)

/-- Chunk `j` of the own quarter: await the neighbour's rows, compute, share, write out. -/
def finish (j : Fin 8) : Prog (TpuEff nD τ sig (Elt F) Λ₀ .tc) PUnit := do
  pWait (.rsR j) (sS j)
  compute d j
  share d .y j
  share d .z j
  outCopy d 0 j

/-- Forward chunk `j` of the quarter received across its other axis. -/
def forward (j : Fin 8) : Prog (TpuEff nD τ sig (Elt F) Λ₀ .tc) PUnit := do
  pWait (.r1 (axOf j).other j) (vP d 0 j)
  outCopy d (rel (axOf j).other) j
  pSend (aDev (axOf j) d) (vP d (rel (axOf j).other) j) (vP d (rel (axOf j).other) j) (.s2 j) (.r2 j)

/-- Write out chunk `j` of the quarter received across its own axis. -/
def second (j : Fin 8) : Prog (TpuEff nD τ sig (Elt F) Λ₀ .tc) PUnit := do
  pWait (.r1 (axOf j) j) (vP d 0 j)
  outCopy d (rel (axOf j)) j

/-- Write out chunk `j` of the diagonal quarter. -/
def third (j : Fin 8) : Prog (TpuEff nD τ sig (Elt F) Λ₀ .tc) PUnit := do
  pWait (.r2 j) (vP d (rel (axOf j).other) j)
  outCopy d 3 j

/-- Await the sends of chunk `j`. -/
def drain (j : Fin 8) : Prog (TpuEff nD τ sig (Elt F) Λ₀ .tc) PUnit := do
  pWait (.rsS j) (xS j)
  pWait (.s1 .y j) (vP d 0 j)
  pWait (.s1 .z j) (vP d 0 j)
  pWait (.s2 j) (vP d (rel (axOf j).other) j)

/-- The signals to the three neighbours, and the wait for theirs. -/
def barrier : Prog (TpuEff nD τ sig (Elt F) Λ₀ .tc) PUnit := do
  semSignalWord (xDev d) bsem 1#32
  semSignalWord (aDev .y d) bsem 1#32
  semSignalWord (aDev .z d) bsem 1#32
  semWaitWord bsem 3#32

/-- The whole body of device `d`. -/
def bodyOn : Prog (TpuEff nD τ sig (Elt F) Λ₀ .tc) PUnit := do
  each chunks (stage d)
  pCopy (rS (k0_off2 d) (k0_off2_inb d)) bR .inR ⟨Or.inl rfl, trivial⟩
  pCopy mG gS .inG ⟨Or.inl rfl, trivial⟩
  barrier d
  each chunks (exchange d)
  pWait .inR bR
  pWait .inG gS
  each chunks (finish d)
  each chunks (forward d)
  each chunks (second d)
  each chunks (third d)
  each chunks (drain d)
  each chunks fun j => pWait (.out 0 j) (oP d 0 j)
  each chunks fun j => pWait (.out (rel (axOf j).other) j) (oP d (rel (axOf j).other) j)
  each chunks fun j => pWait (.out (rel (axOf j)) j) (oP d (rel (axOf j)) j)
  each chunks fun j => pWait (.out 3 j) (oP d 3 j)

end Phases

end Cert.ArLn

end
-- ==== Proof.Mesh.lean ====
module

public import proofs.«01_k».proof.Proof.Prog

@[expose] public section

/-! # The mesh, the quarters and the chunks

A device's number is `4 x + 2 y + z`.  The 512 rows fall into four quarters of 128 rows; the
device with `y`, `z` owns quarter `2 y + z`.  Each quarter is handled in eight chunks of 16 rows.
This module says where the kernel's computed neighbours and offsets lie in these terms. -/

noncomputable section

namespace Cert.ArLn

open Idealize.ShloMosaic Idealize.ShloMosaic.TcCoe Idealize.SL.Sem
open Cert.KernelIdeal Cert.KernelIdeal.Gen

/-- Quarter number `r` relative to device `d`'s own. -/
def quarter (d : Dev nD) (r : Fin 4) : Fin 4 := ⟨(d.val % 4) ^^^ r.val, by revert d r; decide⟩

/-- Across `x` and back is home. -/
theorem xDev_xDev : ∀ d, xDev (xDev d) = d := by decide +kernel
/-- So is along `y` or `z` and back. -/
theorem aDev_aDev : ∀ (a : Ax) d, aDev a (aDev a d) = d := fun a => by cases a <;> decide +kernel
/-- The same column of `y`, `z`: the same quarters. -/
theorem quarter_xDev : ∀ d r, quarter (xDev d) r = quarter d r := by decide +kernel
/-- A neighbour's own quarter, seen from here, and back. -/
theorem quarter_rel (a : Ax) : ∀ d, quarter d (rel a) = quarter (aDev a d) 0 := by cases a <;> decide +kernel
/-- The neighbour calls this device's quarter what this device calls the neighbour's. -/
theorem quarter_aDev_rel (a : Ax) : ∀ d, quarter (aDev a d) (rel a) = quarter d 0 := by cases a <;> decide +kernel
/-- The quarter diagonal to a neighbour is the one across the other axis from here. -/
theorem quarter_aDev_three (a : Ax) : ∀ d, quarter (aDev a d) 3 = quarter d (rel a.other) := by cases a <;> decide +kernel
/-- The quarter beyond, seen from the neighbour, is the diagonal one. -/
theorem quarter_aDev_other (a : Ax) : ∀ d, quarter (aDev a d) (rel a.other) = quarter d 3 := by cases a <;> decide +kernel
/-- The other of the other axis is the axis. -/
theorem other_other (a : Ax) : a.other.other = a := by cases a <;> rfl

/-- The `x` coordinate. -/
def xOf (d : Dev nD) : Nat := d.val / 4
/-- Neighbours along `y` and `z` have the same `x`. -/
theorem xOf_aDev (a : Ax) : ∀ d, xOf (aDev a d) = xOf d := by cases a <;> decide +kernel

/-- The device of `d`'s `x` coordinate that owns quarter `k`. -/
def ownerOf (d : Dev nD) (k : Fin 4) : Dev nD := ⟨4 * (d.val / 4) + k.val, by revert d k; decide⟩
/-- A device owns its own quarter. -/
theorem ownerOf_own : ∀ d, ownerOf d (quarter d 0) = d := by decide +kernel
/-- Neighbours along `y` and `z` agree on who owns a quarter. -/
theorem ownerOf_aDev (a : Ax) : ∀ d k, ownerOf (aDev a d) k = ownerOf d k := by cases a <;> decide +kernel

/-! ## The chunks -/

/-- A chunk lies within the 512 rows. -/
theorem inb512 (k : Fin 4) (j : Fin 8) : ∀ a, (![128 * k.val + 16 * j.val, 0] : Fin 2 → Nat) a + S16x512.size a ≤ S512x512.size a := by
  revert k j; decide
/-- So it does in the stacked partial sum. -/
theorem inbP (k : Fin 4) (j : Fin 8) : ∀ a, (![0, 128 * k.val + 16 * j.val, 0] : Fin 3 → Nat) a + S1x16x512.size a ≤ S1x512x512.size a := by
  revert k j; decide
/-- A quarter lies within the 512 rows. -/
theorem inbR (k : Fin 4) : ∀ a, (![128 * k.val, 0] : Fin 2 → Nat) a + S128x512.size a ≤ S512x512.size a := by
  revert k; decide

/-- Chunk `j` of quarter `k`: of the finished rows, of the result, of the partial sum; quarter `k` of the residual. -/
def vC (k : Fin 4) (j : Fin 8) : Memref sig .tc .vmem S16x512 .f32 := vS ![128 * k.val + 16 * j.val, 0] (inb512 k j)
/-- Chunk `j` of quarter `k` of the result. -/
def oC (k : Fin 4) (j : Fin 8) : Memref sig .tc .hbm S16x512 .f32 := oS ![128 * k.val + 16 * j.val, 0] (inb512 k j)
/-- Chunk `j` of quarter `k` of the partial sum. -/
def pC (k : Fin 4) (j : Fin 8) : Memref sig .tc .hbm S16x512 .f32 := pS ![0, 128 * k.val + 16 * j.val, 0] (inbP k j)
/-- Quarter `k` of the residual. -/
def rC (k : Fin 4) : Memref sig .tc .hbm S128x512 .f32 := rS ![128 * k.val, 0] (inbR k)

/-- Where the own quarter's chunks lie among the finished rows. -/
theorem off4_eq : ∀ (d : Dev nD) (j : Fin 8), k0_off4 d (chunkW j) = ![128 * (quarter d 0).val + 16 * j.val, 0] := by decide +kernel
/-- Where the own quarter's finished chunks are stored. -/
theorem off3_eq : ∀ (d : Dev nD) (j : Fin 8), k0_off3 d (chunkW j) = ![128 * (quarter d 0).val + 16 * j.val, 0] := by decide +kernel
/-- Where the `z` neighbour's chunks lie. -/
theorem off5_eq : ∀ (d : Dev nD) (j : Fin 8), k0_off5 d (chunkW j) = ![128 * (quarter d 1).val + 16 * j.val, 0] := by decide +kernel
/-- Where the `y` neighbour's chunks lie. -/
theorem off6_eq : ∀ (d : Dev nD) (j : Fin 8), k0_off6 d (chunkW j) = ![128 * (quarter d 2).val + 16 * j.val, 0] := by decide +kernel
/-- Where the diagonal device's chunks lie. -/
theorem off7_eq : ∀ (d : Dev nD) (j : Fin 8), k0_off7 d (chunkW j) = ![128 * (quarter d 3).val + 16 * j.val, 0] := by decide +kernel
/-- Where the own quarter's chunks lie in the partial sum. -/
theorem off1_eq : ∀ (d : Dev nD) (j : Fin 8), k0_off1 d (chunkW j) = ![0, 128 * (quarter d 0).val + 16 * j.val, 0] := by decide +kernel
/-- Where the own quarter lies in the residual. -/
theorem off2_eq : ∀ (d : Dev nD), k0_off2 d = ![128 * (quarter d 0).val, 0] := by decide +kernel

/-- The computed offset of a chunk is its row. -/
theorem offP_eq (d : Dev nD) (r : Fin 4) (j : Fin 8) : offP d r j = ![128 * (quarter d r).val + 16 * j.val, 0] :=
  match r with
  | 0 => off4_eq d j
  | 1 => off5_eq d j
  | 2 => off6_eq d j
  | 3 => off7_eq d j

/-- Pieces of the finished rows at equal offsets are equal. -/
theorem vS_congr {o o' : Fin 2 → Nat} (e : o = o') (h h') : vS o h = vS o' h' := by subst e; rfl
/-- Pieces of the result at equal offsets are equal. -/
theorem oS_congr {o o' : Fin 2 → Nat} (e : o = o') (h h') : oS o h = oS o' h' := by subst e; rfl

/-- The computed piece of the finished rows is the chunk. -/
theorem vP_eq (d : Dev nD) (r : Fin 4) (j : Fin 8) : vP d r j = vC (quarter d r) j := vS_congr (offP_eq d r j) _ _
/-- The computed piece of the result is the chunk. -/
theorem oP_eq (d : Dev nD) (r : Fin 4) (j : Fin 8) : oP d r j = oC (quarter d r) j := oS_congr (offP_eq d r j) _ _
/-- The computed piece of the partial sum is the chunk. -/
theorem pS_eq (d : Dev nD) (j : Fin 8) : pS (k0_off1 d (chunkW j)) (k0_off1_inb d j) = pC (quarter d 0) j := by
  unfold pC; congr 1; exact off1_eq d j
/-- The computed piece of the residual is the quarter. -/
theorem rS_eq (d : Dev nD) : rS (k0_off2 d) (k0_off2_inb d) = rC (quarter d 0) := by
  unfold rC; congr 1; exact off2_eq d

/-! ## The numbering of the semaphores is one to one -/

/-- The semaphore with a given number. -/
def decode (n : Fin 106) : Cell :=
  if h : n.val < 8 then .inp ⟨n.val, h⟩
  else if n.val = 8 then .inR
  else if n.val = 9 then .inG
  else if h : n.val < 42 then
    let j : Fin 8 := ⟨(n.val - 10) % 8, Nat.mod_lt _ (by decide)⟩
    .out (match (n.val - 10) / 8 with
      | 0 => 0
      | 1 => rel (axOf j).other
      | 2 => rel (axOf j)
      | _ => 3) j
  else
    let j : Fin 8 := ⟨(n.val - 42) % 8, Nat.mod_lt _ (by decide)⟩
    match (n.val - 42) / 8 with
    | 0 => .rsS j
    | 1 => .rsR j
    | 2 => .s1 .y j
    | 3 => .r1 .y j
    | 4 => .s1 .z j
    | 5 => .r1 .z j
    | 6 => if h : j.val < 4 then .s2 ⟨2 * j.val, by omega⟩ else .r2 ⟨2 * (j.val - 4), by omega⟩
    | _ => if h : j.val < 4 then .s2 ⟨2 * j.val + 1, by omega⟩ else .r2 ⟨2 * (j.val - 4) + 1, by omega⟩

/-- A semaphore's number gives back its name. -/
theorem decode_dsem (x : Cell) : decode (dsem x) = x := by
  cases x with
  | inp j => revert j; decide +kernel
  | inR => decide +kernel
  | inG => decide +kernel
  | out r j => revert r j; decide +kernel
  | rsS j => revert j; decide +kernel
  | rsR j => revert j; decide +kernel
  | s1 a j => cases a <;> (revert j; decide +kernel)
  | r1 a j => cases a <;> (revert j; decide +kernel)
  | s2 j => revert j; decide +kernel
  | r2 j => revert j; decide +kernel

/-- And its name its number. -/
theorem dsem_decode : ∀ n : Fin 106, dsem (decode n) = n := by decide +kernel

/-- The semaphores and their numbers. -/
def cellEquiv : Cell ≃ Fin 106 := ⟨dsem, decode, decode_dsem, dsem_decode⟩

/-- There are finitely many semaphores. -/
instance : Fintype Cell := Fintype.ofEquiv _ cellEquiv.symm
/-- There are two axes. -/
instance : Fintype Ax := ⟨{.y, .z}, fun a => by cases a <;> decide⟩

/-- Different names have different numbers. -/
theorem dsem_injective : Function.Injective dsem := cellEquiv.injective

/-- The amounts: all 16-row copies count the same. -/
abbrev N16 : ℕ := (vC 0 0).view.dmaCredit
/-- A staged chunk counts as much as any chunk. -/
theorem credit_x (j : Fin 8) : (xS j).view.dmaCredit = N16 := rfl
/-- So does a chunk from across `x`. -/
theorem credit_s (j : Fin 8) : (sS j).view.dmaCredit = N16 := rfl
/-- So does a chunk of finished rows. -/
theorem credit_v (k : Fin 4) (j : Fin 8) : (vC k j).view.dmaCredit = N16 := rfl
/-- So does a chunk of the result. -/
theorem credit_o (k : Fin 4) (j : Fin 8) : (oC k j).view.dmaCredit = N16 := rfl

end Cert.ArLn

end
-- ==== Proof.Protocol.lean ====
module

public import proofs.«01_k».proof.Proof.Mesh
public import Idealize.ShloMosaic.Lib.Pipeline.Launch
public import Idealize.ShloMosaic.Lib.Pipeline.Kit
public import Idealize.ShloMosaic.Lib.Tactic

@[expose] public section

/-! # The protocol

What every buffer holds when a semaphore says so.  Each semaphore of a device is a cell with one
round; what its waiter receives with the round — the cell's payload — is written here, contents
included. -/

noncomputable section

namespace Cert.ArLn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's own copy and this protocol's, whose duties are `Fin 3` -/

/-- This protocol's part of the resources. -/
abbrev UB : Type := URounds (GSem nD τ sig) (Fin 3)
/-- Both parts. -/
abbrev UU : Type := UR sig nD τ × UB

local notation "𝕄" => MT nD τ sig Unit (Elt F) ℕ UU ℕ

/-- Where the launch's part lies. -/
abbrev EP : Emb (UR sig nD τ) (MT nD τ sig Unit (Elt F) ℕ UU ℕ) := embL
/-- Where this protocol's part lies. -/
abbrev ER : Emb UB (MT nD τ sig Unit (Elt F) ℕ UU ℕ) := embR

variable (m : (ℓ : Loc nD τ sig) → Buf (Elt F) ℓ)

/-! ## The contents -/

/-- Chunk `j` of quarter `k` of device `d`'s partial sum. -/
def PX (d : Dev nD) (k : Fin 4) (j : Fin 8) : Vec F S16x512 .f32 :=
  (pC k j).view.read (Elt F) (m ((pC k j).view.loc (d : Thread nD τ)))
/-- Device `d`'s own quarter of its residual. -/
def RX (d : Dev nD) : Vec F S128x512 .f32 :=
  (rC (quarter d 0)).view.read (Elt F) (m ((rC (quarter d 0)).view.loc (d : Thread nD τ)))
/-- Chunk `j` of it. -/
def RXc (d : Dev nD) (j : Fin 8) : Vec F S16x512 .f32 := fun i => RX m d ((rect128 ![16 * j.val, 0] (inb128 j)).emb i)
/-- Device `d`'s weight row. -/
def GX (d : Dev nD) : Vec F S512 .f32 := mG.view.read (Elt F) (m (mG.view.loc (d : Thread nD τ)))
/-- The same as a one-row matrix. -/
def GX1 (d : Dev nD) : Vec F S1x512 .f32 := fun i => GX m d (fun a => ⟨(i 1).val, by match a with | ⟨0, _⟩ => exact (i 1).isLt⟩)
/-- The finished chunk `j` that device `d` computes. -/
def blk (d : Dev nD) (j : Fin 8) : Vec F S16x512 .f32 :=
  k0_pay12 (PX m d (quarter d 0) j) (PX m (xDev d) (quarter d 0) j) (RXc m d j) (GX1 m d)
/-- Finished chunk `j` of quarter `k` as device `d` is given it: computed by the owner of the quarter. -/
def OUT (d : Dev nD) (k : Fin 4) (j : Fin 8) : Vec F S16x512 .f32 := blk m (ownerOf d k) j

/-- A device's own finished chunk is the one it computes. -/
theorem OUT_own (d : Dev nD) (j : Fin 8) : OUT m d (quarter d 0) j = blk m d j := by
  unfold OUT; rw [ownerOf_own]
/-- Neighbours along `y` and `z` are given the same finished chunks. -/
theorem OUT_aDev (a : Ax) (d : Dev nD) (k : Fin 4) (j : Fin 8) : OUT m (aDev a d) k j = OUT m d k j := by
  unfold OUT; rw [ownerOf_aDev]

/-! ## Ownership of a piece of a buffer -/

section Own
variable {sp : Space} {s : Shape}

/-- Device `d`'s piece `b`, holding `X`, at share `q`. -/
abbrev at_ (d : Dev nD) (b : Memref sig .tc sp s .f32) (q : PosShare TreeShare) (X : Vec F s .f32) : sProp 𝕄 :=
  owns (d : Thread nD τ) b q X
/-- Device `d`'s piece `b`, whatever it holds. -/
def any (d : Dev nD) (b : Memref sig .tc sp s .f32) : sProp 𝕄 := iprop(∃ X, at_ (F := F) d b fullShare X)

/-- Holding a piece may be put under an invariant. -/
instance any_storable (d : Dev nD) (b : Memref sig .tc sp s .f32) : BI.Storable (upEmb : UEmb _ 𝕄) (any (F := F) d b) := by
  unfold any; infer_instance

end Own

/-! ## The payloads -/

/-- The share of a finished chunk held by its copy to the result. -/
def outShare (r : Fin 4) (j : Fin 8) : PosShare TreeShare :=
  if r = 0 then fullShare.right.right else if r = rel (axOf j).other then fullShare.left else fullShare
/-- The share of an own finished chunk held by its copy to the neighbour on an axis. -/
def s1Share : Ax → PosShare TreeShare
  | .y => fullShare.left
  | .z => fullShare.right.left

/-- What the wait on a DMA semaphore of device `d` yields. -/
def pay (d : Dev nD) : Cell → sProp 𝕄
  | .inp j => iprop(at_ d (pC (quarter d 0) j) fullShare (PX m d (quarter d 0) j) ∗ at_ d (xS j) fullShare (PX m d (quarter d 0) j))
  | .inR => iprop(at_ d (rC (quarter d 0)) fullShare (RX m d) ∗ at_ d bR fullShare (RX m d))
  | .inG => iprop(at_ d mG fullShare (GX m d) ∗ at_ d gS fullShare (GX m d))
  | .out r j => iprop(at_ d (vC (quarter d r) j) (outShare r j) (OUT m d (quarter d r) j) ∗ at_ d (oC (quarter d r) j) fullShare (OUT m d (quarter d r) j))
  | .rsS j => at_ d (xS j) fullShare.left (PX m d (quarter d 0) j)
  | .rsR j => at_ d (sS j) fullShare (PX m (xDev d) (quarter d 0) j)
  | .s1 a j => at_ d (vC (quarter d 0) j) (s1Share a) (OUT m d (quarter d 0) j)
  | .r1 a j => at_ d (vC (quarter d (rel a)) j) fullShare (OUT m d (quarter d (rel a)) j)
  | .s2 j => at_ d (vC (quarter d (rel (axOf j).other)) j) fullShare.right (OUT m d (quarter d (rel (axOf j).other)) j)
  | .r2 j => at_ d (vC (quarter d 3) j) fullShare (OUT m d (quarter d 3) j)

/-- A staged chunk comes with the chunk it was read from. -/
theorem pay_inp (d : Dev nD) (j : Fin 8) : pay m d (.inp j)
    = iprop(at_ d (pC (quarter d 0) j) fullShare (PX m d (quarter d 0) j) ∗ at_ d (xS j) fullShare (PX m d (quarter d 0) j)) := rfl
/-- So does the staged residual. -/
theorem pay_inR (d : Dev nD) : pay m d .inR = iprop(at_ d (rC (quarter d 0)) fullShare (RX m d) ∗ at_ d bR fullShare (RX m d)) := rfl
/-- And the staged weight row. -/
theorem pay_inG (d : Dev nD) : pay m d .inG = iprop(at_ d mG fullShare (GX m d) ∗ at_ d gS fullShare (GX m d)) := rfl
/-- A chunk written to the result comes with the share of the finished chunk it was read from. -/
theorem pay_out (d : Dev nD) (r : Fin 4) (j : Fin 8) : pay m d (.out r j)
    = iprop(at_ d (vC (quarter d r) j) (outShare r j) (OUT m d (quarter d r) j) ∗ at_ d (oC (quarter d r) j) fullShare (OUT m d (quarter d r) j)) := rfl
/-- A chunk sent along `x` gives back its share. -/
theorem pay_rsS (d : Dev nD) (j : Fin 8) : pay m d (.rsS j) = at_ d (xS j) fullShare.left (PX m d (quarter d 0) j) := rfl
/-- A chunk from across `x` holds that device's partial sum. -/
theorem pay_rsR (d : Dev nD) (j : Fin 8) : pay m d (.rsR j) = at_ d (sS j) fullShare (PX m (xDev d) (quarter d 0) j) := rfl
/-- A finished chunk sent along an axis gives back its share. -/
theorem pay_s1 (d : Dev nD) (a : Ax) (j : Fin 8) : pay m d (.s1 a j) = at_ d (vC (quarter d 0) j) (s1Share a) (OUT m d (quarter d 0) j) := rfl
/-- A neighbour's chunk holds the neighbour's finished rows. -/
theorem pay_r1 (d : Dev nD) (a : Ax) (j : Fin 8) : pay m d (.r1 a j)
    = at_ d (vC (quarter d (rel a)) j) fullShare (OUT m d (quarter d (rel a)) j) := rfl
/-- A forwarded chunk gives back its share. -/
theorem pay_s2 (d : Dev nD) (j : Fin 8) : pay m d (.s2 j)
    = at_ d (vC (quarter d (rel (axOf j).other)) j) fullShare.right (OUT m d (quarter d (rel (axOf j).other)) j) := rfl
/-- A chunk forwarded from the diagonal device holds its finished rows. -/
theorem pay_r2 (d : Dev nD) (j : Fin 8) : pay m d (.r2 j) = at_ d (vC (quarter d 3) j) fullShare (OUT m d (quarter d 3) j) := rfl

/-- The landing pieces device `e` lends its neighbour on axis `a` for chunk `j`. -/
def lendA (a : Ax) (e : Dev nD) (j : Fin 8) : sProp 𝕄 :=
  iprop(any (F := F) e (vC (quarter e (rel a)) j) ∗ (if axOf j = a then any (F := F) e (vC (quarter e 3) j) else iprop(emp)))

/-- What device `e`'s signals carry: its landing pieces, to the neighbour that writes them. -/
def lend (e : Dev nD) : Fin 3 → sProp 𝕄
  | 0 => bigSep Finset.univ fun j => any (F := F) e (sS j)
  | 1 => bigSep Finset.univ fun j => lendA (F := F) .y e j
  | 2 => bigSep Finset.univ fun j => lendA (F := F) .z e j

/-- The neighbour that pays a duty of a barrier. -/
def nbr (i : Fin 3) (d : Dev nD) : Dev nD :=
  match i with
  | 0 => xDev d
  | 1 => aDev .y d
  | 2 => aDev .z d

/-- Each neighbour's neighbour of the same kind is the device itself. -/
theorem nbr_nbr (i : Fin 3) (d : Dev nD) : nbr i (nbr i d) = d :=
  match i with
  | 0 => xDev_xDev d
  | 1 => aDev_aDev .y d
  | 2 => aDev_aDev .z d

/-! ## The schedule -/

/-- The amount of a DMA semaphore's one round. -/
def amt : Cell → ℕ
  | .inR => bR.view.dmaCredit
  | .inG => gS.view.dmaCredit
  | _ => N16

/-- No payment is empty. -/
theorem amt_pos (x : Cell) : 0 < amt x := by
  cases x <;> exact View.dmaCredit_pos _ (by decide)

/-- A payment may be put under an invariant. -/
instance pay_storable (d : Dev nD) (x : Cell) : BI.Storable (upEmb : UEmb _ 𝕄) (pay m d x) := by
  cases x <;> (unfold pay; infer_instance)
/-- A loan of one chunk may be put under an invariant. -/
instance lendA_storable (a : Ax) (d : Dev nD) (j : Fin 8) : BI.Storable (upEmb : UEmb _ 𝕄) (lendA (F := F) a d j) := by
  unfold lendA; split <;> infer_instance
/-- So may a whole loan. -/
instance lend_storable (d : Dev nD) (i : Fin 3) : BI.Storable (upEmb : UEmb _ 𝕄) (lend (F := F) d i) := by
  match i with
  | 0 => unfold lend; infer_instance
  | 1 => unfold lend; infer_instance
  | 2 => unfold lend; infer_instance

/-- The semaphores of a device, the barrier semaphore as `none`. -/
abbrev cell (d : Dev nD) (x : Option Cell) : GSem nD τ sig :=
  ((d : Thread nD τ), match x with | none => .reg bsem | some x => .dma (dsem x))
/-- A DMA semaphore. -/
abbrev dcell (d : Dev nD) (x : Cell) : GSem nD τ sig := ((d : Thread nD τ), .dma (dsem x))
/-- The barrier semaphore. -/
abbrev bcell (d : Dev nD) : GSem nD τ sig := ((d : Thread nD τ), .reg bsem)

/-- One round for every semaphore: a DMA semaphore's has the one duty `0`, a barrier's one for each neighbour. -/
def Rd : Rounds.Schedule (GSem nD τ sig) (Fin 3) 𝕄 where
  duties g r := if r = 0 then (match g.2 with | .reg _ => Finset.univ | .dma _ => {0}) else ∅
  unitless _ := False
  amount g _ _ := match g.2 with | .reg _ => 1 | .dma n => amt (decode n)
  payload g _ i := match g.2 with | .reg _ => lend (nbr i g.1.1) i | .dma n => pay m g.1.1 (decode n)
  amount_pos g _ _ _ := by
    split
    · exact Nat.one_pos
    · exact amt_pos _

/-- And so may whatever the schedule pays. -/
instance Rd_storable (g : GSem nD τ sig) (r : ℕ) (i : Fin 3) : BI.Storable (upEmb : UEmb _ 𝕄) ((Rd (F := F) m).payload g r i) := by
  show BI.Storable upEmb (match g.2 with | .reg _ => lend (nbr i g.1.1) i | .dma n => pay m g.1.1 (decode n))
  split <;> infer_instance

/-- A DMA semaphore is paid once. -/
theorem duties_dma (d : Dev nD) (x : Cell) : (Rd (F := F) m).duties (dcell d x) 0 = {0} := rfl
/-- A barrier is signalled by three neighbours. -/
theorem duties_bar (d : Dev nD) : (Rd (F := F) m).duties (bcell d) 0 = Finset.univ := rfl
/-- There is only the one round. -/
theorem duties_later (g : GSem nD τ sig) : ∀ r, 1 ≤ r → (Rd (F := F) m).duties g r = ∅ := fun r hr => by
  dsimp only [Rd]; rw [if_neg (by omega)]
/-- How much a DMA semaphore is paid. -/
theorem amount_dma (d : Dev nD) (x : Cell) (i : Fin 3) : (Rd (F := F) m).amount (dcell d x) 0 i = amt x := by
  show amt (decode (dsem x)) = amt x
  rw [decode_dsem]
/-- Each signal counts one. -/
theorem amount_bar (d : Dev nD) (i : Fin 3) : (Rd (F := F) m).amount (bcell d) 0 i = 1 := rfl
/-- What comes with a DMA semaphore's payment. -/
theorem payload_dma (d : Dev nD) (x : Cell) (i : Fin 3) : (Rd (F := F) m).payload (dcell d x) 0 i = pay m d x := by
  show pay m d (decode (dsem x)) = pay m d x
  rw [decode_dsem]
/-- What comes with a signal. -/
theorem payload_bar (d : Dev nD) (i : Fin 3) : (Rd (F := F) m).payload (bcell d) 0 i = lend (nbr i d) i := rfl
/-- How much a DMA semaphore's waiter waits for. -/
theorem expect_dma (d : Dev nD) (x : Cell) : (Rd (F := F) m).expect (dcell d x) 0 = amt x := by
  unfold Schedule.expect Schedule.amountOf; rw [duties_dma, Finset.sum_singleton, amount_dma]
/-- A barrier's waiter waits for three. -/
theorem expect_bar (d : Dev nD) : (Rd (F := F) m).expect (bcell d) 0 = 3 := rfl
/-- All that a DMA semaphore's waiter receives. -/
theorem rest_dma (d : Dev nD) (x : Cell) :
    bigSep ((Rd (F := F) m).duties (dcell d x) 0 \ ∅) (fun i => (Rd (F := F) m).payload (dcell d x) 0 i) = pay m d x := by
  rw [Finset.sdiff_empty, duties_dma, bigSep_singleton, payload_dma]
/-- All that a barrier's waiter receives: the loans of its three neighbours. -/
theorem rest_bar (d : Dev nD) :
    bigSep ((Rd (F := F) m).duties (bcell d) 0 \ ∅) (fun i => (Rd (F := F) m).payload (bcell d) 0 i)
      = iprop(lend (xDev d) 0 ∗ lend (aDev .y d) 1 ∗ lend (aDev .z d) 2) := by
  rw [Finset.sdiff_empty, duties_bar, bigSep_univ_eq_bigSepL [0, 1, 2] (by decide) (by decide), bigSepL_cons_cons,
    bigSepL_cons_cons, bigSepL_singleton]
  rfl

/-! ## Who pays, and the levels -/

/-- Every DMA semaphore has one payer: itself, or the neighbour whose copy lands at it. -/
def payer (x : Cell) (d : Dev nD) : Dev nD :=
  match x with
  | .rsR _ => xDev d
  | .r1 a _ => aDev a d
  | .r2 j => aDev (axOf j) d
  | _ => d

/-- Paying goes both ways. -/
theorem payer_payer (x : Cell) (d : Dev nD) : payer x (payer x d) = d := by
  cases x <;> first | rfl | exact xDev_xDev d | exact aDev_aDev _ d

/-- The order of waiting: barrier, then the three kinds of landing; what only the device itself fills comes first. -/
def lvl : Cell → ℕ
  | .rsR _ => 2
  | .r1 _ _ => 3
  | .r2 _ => 4
  | _ => 0

/-- Only the TensorCores' semaphores are waited for. -/
def L (g : GSem nD τ sig) : Finset Unit := if g.1.2 = .tc then {()} else ∅
/-- The level of a semaphore: the barrier's is one. -/
def lv (g : GSem nD τ sig) (_ : Unit) : ℕ := match g.2 with | .reg _ => 1 | .dma n => lvl (decode n)

/-- Other threads' semaphores are not. -/
theorem L_of_ne (g : GSem nD τ sig) (h : g.1.2 ≠ .tc) : L g = ∅ := if_neg h
/-- A TensorCore's are. -/
theorem L_tc (c : Dev nD) (sm : SemLoc sig) : L ((c : Thread nD τ), sm) = {()} := if_pos rfl
/-- The level of a DMA semaphore is that of its name. -/
theorem lv_dma (d : Dev nD) (x : Cell) (u : Unit) : lv (dcell d x) u = lvl x := by
  show lvl (decode (dsem x)) = lvl x
  rw [decode_dsem]

/-- Everything owed is owed to a TensorCore's semaphore of level above `n`. -/
def Above (n : ℕ) (O : CellTallies nD τ sig Unit) : Prop := ∀ g u, 0 < O g u → g.1.2 = .tc ∧ n < lv g u

/-- Owing nothing lies above everything. -/
theorem Above.zero (n : ℕ) : Above n 0 := fun _ _ h => absurd h (Nat.lt_irrefl 0)
/-- Two debts above `n` are together above `n`. -/
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
/-- So is a family of them. -/
theorem Above.sum {ι : Type} {n : ℕ} (s : Finset ι) (O : ι → CellTallies nD τ sig Unit) (h : ∀ i, Above n (O i)) : Above n (∑ i ∈ s, O i) := by
  classical
  induction s using Finset.induction_on with
  | empty => exact Above.zero n
  | insert i s hi ih => rw [Finset.sum_insert hi]; exact (h i).add ih
/-- A debt to a semaphore of higher level lies above `n`. -/
theorem Above.tally {n : ℕ} (d : Dev nD) (x : Cell) (N : ℕ) (h : n < lvl x) : Above n (tallyAt (dcell d x) () N) := fun g u hp => by
  rw [tallyAt_apply] at hp
  split at hp
  · rename_i e; rw [e.1]; exact ⟨rfl, by rw [lv_dma]; exact h⟩
  · exact absurd hp (Nat.lt_irrefl 0)
/-- What lies above `n` lies above everything smaller. -/
theorem Above.mono {n n' : ℕ} {O : CellTallies nD τ sig Unit} (h : Above n O) (hn : n' ≤ n) : Above n' O := fun g u hp =>
  ⟨(h g u hp).1, Nat.lt_of_le_of_lt hn (h g u hp).2⟩

/-- A wait on a semaphore below everything owed is allowed. -/
theorem mayWait (c : Dev nD) (sm : SemLoc sig) (n : ℕ) (hn : lv ((c : Thread nD τ), sm) () = n) (O : CellTallies nD τ sig Unit) (h : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by
      have := (h g u hg).1
      unfold L; rw [if_pos this]; exact Finset.mem_singleton_self _)
    (fun p hp => by rw [Finset.mem_singleton.mp hp]; exact Nat.le_of_eq hn)
    (fun g u hg => (h g u hg).2)

end Cert.ArLn

end
-- ==== Proof.Steps.lean ====
module

public import proofs.«01_k».proof.Proof.Protocol

@[expose] public section

/-! # One step of a device

Each operation of the kernel, with what it takes and what it gives, and the loop over the chunks. -/

noncomputable section

namespace Cert.ArLn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The kernel has no loop that needs a measure of its progress. -/
abbrev 𝒱₀ : Variants := Variants.none

/-- What a run of `p` on device `c` ending in `Q` needs. -/
abbrev wpT (c : Dev nD) {α : Type} (p : TcProg F α) (Q : α → sProp 𝕄) : sProp 𝕄 :=
  wp frame (wpE (defs₀ (F := F)) 𝒱₀ (c : Thread nD τ) none) Set.univ p Q

/-! ## What every device knows -/

/-- The invariants of all cells under the names `K`, that each has reached its round, and the levels. -/
def ctx (K : Dev nD × Option Cell → ℕ) : sProp 𝕄 :=
  iprop((bigSep Finset.univ fun p : Dev nD × Option Cell => cellInv ER (Rd m) (K p) (cell p.1 p.2))
    ∗ (bigSep Finset.univ fun p : Dev nD × Option Cell => reached ER (cell p.1 p.2) 0) ∗ levAts L lv)

/-- What every device knows may be copied. -/
instance ctx_persistent (K : Dev nD × Option Cell → ℕ) : BI.Persistent (ctx m K) := by unfold ctx; infer_instance

variable (K : Dev nD × Option Cell → ℕ)

/-- Of it, the invariant of one semaphore. -/
theorem ctx_inv (d : Dev nD) (x : Option Cell) : ctx m K ⊢ cellInv ER (Rd m) (K (d, x)) (cell d x) := by
  have h : (bigSep Finset.univ fun p : Dev nD × Option Cell => (cellInv ER (Rd m) (K p) (cell p.1 p.2) : sProp 𝕄))
      ⊢ cellInv ER (Rd m) (K (d, x)) (cell d x) := bigSep_elim (Finset.mem_univ (d, x))
  unfold ctx; iintro ⟨H, -⟩; iapply h; iexact H
/-- That one semaphore has reached its round. -/
theorem ctx_reached (d : Dev nD) (x : Option Cell) : ctx m K ⊢ reached ER (cell d x) 0 := by
  have h : (bigSep Finset.univ fun p : Dev nD × Option Cell => (reached ER (cell p.1 p.2) 0 : sProp 𝕄))
      ⊢ reached ER (cell d x) 0 := bigSep_elim (Finset.mem_univ (d, x))
  unfold ctx; iintro ⟨-, H, -⟩; iapply h; iexact H
/-- And the levels. -/
theorem ctx_lev : ctx m K ⊢ levAts L lv := by
  unfold ctx; iintro ⟨-, -, H⟩; iexact H

/-! ## The states of a semaphore -/

/-- Not yet paid: the right to pay it and the place to wait at. -/
def idle (c : Dev nD) (x : Cell) : sProp 𝕄 := iprop(dutyTok ER (dcell c x) 0 0 ∗ atPos ER (dcell c x) 0 ∅ 0)
/-- Its payment is on the way. -/
def pend (c : Dev nD) (x : Cell) : sProp 𝕄 := iprop(cred (tallyAt (dcell c x) () (amt x)) ∗ atPos ER (dcell c x) 0 ∅ 0)
/-- Waited for, and back at zero. -/
def fin (c : Dev nD) (x : Cell) : sProp 𝕄 := semVal (dcell c x) 0
/-- The right to pay it. -/
def tok (c : Dev nD) (x : Cell) : sProp 𝕄 := dutyTok ER (dcell c x) 0 0
/-- What device `c` still owes. -/
def ow (c : Dev nD) (O : CellTallies nD τ sig Unit) : sProp 𝕄 := iprop(∃ W, owes (c : Thread nD τ) O W)

/-! ## The operations -/

section Ops
variable {sp sp' : Space} {s : Shape} (c : Dev nD)

/-- What a whole write of what was read leaves. -/
theorem write_owns (d : Dev nD) (dst : Memref sig .tc sp' s .f32) (fd : Buf (Elt F) (dst.view.loc (d : Thread nD τ))) (X : Vec F s .f32) :
    (dst.view.loc (d : Thread nD τ) ↦[dst.view.set]{fullShare} dst.view.write (Elt F) fd X Finset.univ : sProp 𝕄) ⊢ at_ d dst fullShare X := by
  refine (owns_intro (d : Thread nD τ) dst fullShare _).trans ?_
  rw [View.read_write_univ]

/-- A copy within the device. -/
theorem step_copy (src : Memref sig .tc sp s .f32) (dst : Memref sig .tc sp' s .f32) (x : Cell) (h) (q : PosShare TreeShare) (X : Vec F s .f32)
    (hN : dst.view.dmaCredit = amt x) (hpay : iprop(at_ c dst fullShare X ∗ at_ c src q X) ⊢ pay m c x) (Q : PUnit → sProp 𝕄) :
    iprop(ctx m K ∗ at_ c src q X ∗ any c dst ∗ idle c x) ⊢ iprop((pend c x -∗ Q ⟨⟩) -∗ wpT c (pCopy src dst x h) Q) := by
  unfold any idle pend at_ owns pCopy
  iintro ⟨#Hc, ⟨%fs, %hfs, Hs⟩, ⟨%Y, %fd, -, Hd⟩, Htok, Hat⟩ Hk
  subst hfs
  simp only [Prog.lift]
  iapply (Rounds.wp_copy_pointsTo 𝒱₀ ER (Rd m) (c : Thread nD τ) none (κ := K (c, some x)) (r := 0) (d := (0 : Fin 3)) (q := q) (fs := fs) (fd := fd)
      (by rw [duties_dma]; exact Finset.mem_singleton_self _) () (amt x) (show dst.view.amount (.dma (dsem x)) = amt x from hN) (amount_dma m c x 0)
      (by
        rw [payload_dma]
        refine BIBase.Entails.trans ?_ hpay
        iintro ⟨H1, H2⟩
        isplitl [H1]
        · iapply (write_owns c dst fd _); iexact H1
        · iapply (owns_intro (c : Thread nD τ) src q fs); iexact H2)) $$ [Hs Hd Htok]
  · isplitr; · iapply (ctx_inv m K c (some x)); iexact Hc
    isplitl [Hs]; · iexact Hs
    isplitl [Hd]; · iexact Hd
    isplitl [Htok]; · iexact Htok
    iapply (ctx_reached m K c (some x)); iexact Hc
  iintro Hcr
  rw [wp_ret]; imodintro
  iapply Hk
  isplitl [Hcr] <;> iassumption

/-- A copy to another device. -/
theorem step_send (n : Dev nD) (src dst : Memref sig .tc .vmem s .f32) (x x' : Cell) (q : PosShare TreeShare) (X : Vec F s .f32)
    (hN : dst.view.dmaCredit = amt x') (hN' : amt x = amt x') (O : CellTallies nD τ sig Unit)
    (hpay₁ : at_ c src q X ⊢ pay m c x) (hpay₂ : at_ n dst fullShare X ⊢ pay m n x') (Q : PUnit → sProp 𝕄) :
    iprop(ctx m K ∗ at_ c src q X ∗ any n dst ∗ idle c x ∗ tok n x' ∗ ow c (tallyAt (dcell n x') () (amt x') + O))
      ⊢ iprop(((pend c x ∗ ow c O) -∗ Q ⟨⟩) -∗ wpT c (pSend n src dst x x') Q) := by
  unfold any idle pend tok ow at_ owns pSend
  iintro ⟨#Hc, ⟨%fs, %hfs, Hs⟩, ⟨%Y, %fd, -, Hd⟩, ⟨Htok, Hat⟩, Htok', ⟨%W, HO⟩⟩ Hk
  subst hfs
  simp only [Prog.lift]
  iapply (Rounds.wp_send_pointsTo 𝒱₀ ER (Rd m) (c : Thread nD τ) none (κ₁ := K (c, some x)) (κ₂ := K (n, some x')) (r₁ := 0) (r₂ := 0)
      (d₁ := (0 : Fin 3)) (d₂ := (0 : Fin 3)) (q := q) (fs := fs) (fd := fd)
      (by rw [duties_dma]; exact Finset.mem_singleton_self _) (by rw [duties_dma]; exact Finset.mem_singleton_self _)
      () () (amt x') (show dst.view.amount (.dma (dsem x')) = amt x' from hN) ((amount_dma m c x 0).trans hN') (amount_dma m n x' 0) O (add_comm _ _) (W := W)
      (by
        rw [payload_dma]
        exact (owns_intro (c : Thread nD τ) src q fs).trans hpay₁)
      (by
        rw [payload_dma]
        exact (write_owns n dst fd _).trans hpay₂)) $$ [Hs Hd Htok Htok' HO]
  · isplitr; · iapply (ctx_inv m K c (some x)); iexact Hc
    isplitr; · iapply (ctx_inv m K n (some x')); iexact Hc
    isplitl [Hs]; · iexact Hs
    isplitl [Hd]; · iexact Hd
    isplitl [HO]; · iexact HO
    isplitl [Htok]; · iexact Htok
    isplitr; · iapply (ctx_reached m K c (some x)); iexact Hc
    isplitl [Htok']; · iexact Htok'
    iapply (ctx_reached m K n (some x')); iexact Hc
  iintro ⟨Hcr, HO⟩
  rw [wp_ret]; imodintro
  iapply Hk
  rw [hN']
  isplitl [Hcr Hat]
  · isplitl [Hcr] <;> iassumption
  · iexists W; iexact HO

/-- A wait for a copy. -/
theorem step_wait (x : Cell) (dst : Memref sig .tc sp s .f32) (hN : dst.view.dmaCredit = amt x) (O : CellTallies nD τ sig Unit) (hO : Above (lvl x) O)
    (Q : PUnit → sProp 𝕄) :
    iprop(ctx m K ∗ pend c x ∗ ow c O) ⊢ iprop(((fin c x ∗ pay m c x ∗ ow c O) -∗ Q ⟨⟩) -∗ wpT c (pWait x dst) Q) := by
  unfold pend fin ow pWait
  iintro ⟨#Hc, ⟨Hcr, Hat⟩, ⟨%W, HO⟩⟩ Hk
  simp only [Prog.lift]
  iapply (Rounds.wp_wait_rest_token 𝒱₀ ER (Rd m) (c : Thread nD τ) none (κ := K (c, some x))
      (wpE_waitDma2_eq 𝒱₀ (c : Thread nD τ) none Set.univ) (Set.mem_univ _) () (O := O) (W := W) (R := 0) (m := 0) (T := ∅)
      (by rw [Nat.zero_add, expect_dma]; exact hN)) $$ [Hcr HO Hat]
  · isplitr; · iapply (ctx_inv m K c (some x)); iexact Hc
    isplitl [Hcr]; · rw [← hN]; iexact Hcr
    isplitl [HO]; · iexact HO
    isplitr
    · iapply (mayWait c (.dma (dsem x)) (lvl x) (lv_dma c x ()) O hO); iapply (ctx_lev m K); iexact Hc
    iexact Hat
  iintro ⟨HO, Hat, -, Hpay⟩
  ihave Hp := (Entails.of_eq (rest_dma m c x)) $$ Hpay
  rw [wp_ret]
  imod (Rounds.cell_close ER (Rd m) (Set.mem_univ (K (c, some x))) (fun h => h) (R := 0 + 1) (duties_later m (dcell c x))) $$ [Hat] with Hz
  · isplitr; · iapply (ctx_inv m K c (some x)); iexact Hc
    iexact Hat
  imodintro
  iapply Hk
  isplitl [Hz]; · iexact Hz
  isplitl [Hp]; · iexact Hp
  iexists _; iexact HO

/-- A signal to the neighbour's barrier. -/
theorem step_signal (i : Fin 3) (n : Dev nD) (O : CellTallies nD τ sig Unit) (Q : PUnit → sProp 𝕄) :
    iprop(ctx m K ∗ dutyTok ER (bcell n) 0 i ∗ lend (nbr i n) i ∗ ow c (tallyAt (bcell n) () 1 + O))
      ⊢ iprop((ow c O -∗ Q ⟨⟩) -∗ wpT c (semSignalWord n bsem 1#32) Q) := by
  unfold ow
  iintro ⟨#Hc, Htok, Hl, ⟨%W, HO⟩⟩ Hk
  simp only [semSignalWord, Prog.lift]
  iapply (Rounds.wp_signal 𝒱₀ ER (Rd m) (c : Thread nD τ) none (dst := (n : Thread nD τ)) (κ := K (n, none))
      (d := i) (by rw [duties_bar]; exact Finset.mem_univ _) ((amount_bar m n i).trans (by decide)) () O (add_comm _ _))
    $$ [HO Htok Hl]
  · isplitr; · iapply (ctx_inv m K n none); iexact Hc
    isplitl [HO]; · iexact HO
    isplitl [Htok]; · iexact Htok
    isplitl [Hl]; · rw [payload_bar]; iexact Hl
    iapply (ctx_reached m K n none); iexact Hc
  iintro HO
  rw [wp_ret]; imodintro
  iapply Hk
  iexists W; iexact HO

/-- The wait for the three neighbours' signals. -/
theorem step_barrier (O : CellTallies nD τ sig Unit) (hO : Above 1 O) (Q : PUnit → sProp 𝕄) :
    iprop(ctx m K ∗ (cred (tallyAt (bcell c) () 3) ∗ atPos ER (bcell c) 0 ∅ 0) ∗ ow c O)
      ⊢ iprop(((semVal (bcell c) 0 ∗ (lend (xDev c) 0 ∗ lend (aDev .y c) 1 ∗ lend (aDev .z c) 2) ∗ ow c O) -∗ Q ⟨⟩)
          -∗ wpT c (semWaitWord bsem 3#32) Q) := by
  unfold ow
  iintro ⟨#Hc, ⟨Hcr, Hat⟩, ⟨%W, HO⟩⟩ Hk
  simp only [semWaitWord, Prog.lift]
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hcr HO Hat]
  · isplitr; · iapply (ctx_inv m K c none); iexact Hc
    isplitl [Hcr]; · iexact Hcr
    isplitl [HO]; · iexact HO
    isplitr
    · iapply (mayWait c (.reg bsem) 1 rfl O hO); iapply (ctx_lev m K); iexact Hc
    iexact Hat
  iintro ⟨HO, Hat, -, Hpay⟩
  ihave Hp := (Entails.of_eq (rest_bar m c)) $$ Hpay
  rw [wp_ret]
  imod (Rounds.cell_close ER (Rd m) (Set.mem_univ (K (c, none))) (fun h => h) (R := 0 + 1) (duties_later m (bcell c))) $$ [Hat] with Hz
  · isplitr; · iapply (ctx_inv m K c none); iexact Hc
    iexact Hat
  imodintro
  iapply Hk
  isplitl [Hz]; · iexact Hz
  isplitl [Hp]; · iexact Hp
  iexists _; iexact HO

end Ops

/-! ## The loop over the chunks -/

/-- From `P`, and what every device knows, `p` runs to `Q`. -/
def T (c : Dev nD) (P : sProp 𝕄) (p : TcProg F PUnit) (Q : sProp 𝕄) : Prop :=
  iprop(ctx m K ∗ P) ⊢ wpT c p (fun _ => Q)

/-- A proved run, followed by whatever its end allows. -/
theorem T.use {c : Dev nD} {P Q : sProp 𝕄} {p : TcProg F PUnit} (h : T m K c P p Q) (R : PUnit → sProp 𝕄) :
    iprop(ctx m K ∗ P) ⊢ iprop((Q -∗ R ⟨⟩) -∗ wpT c p R) := by
  have h' : iprop(ctx m K ∗ P) ⊢ wpT c p (fun _ => Q) := h
  iintro H Hk
  ihave Hw := h' $$ H
  iapply (wp_mono frame (wpE (defs₀ (F := F)) 𝒱₀ (c : Thread nD τ) none) (E := Set.univ) (p := p) (Q := fun _ => iprop(Q ∗ (Q -∗ R ⟨⟩))) (Q' := R)
    (fun _ => by iintro ⟨HQ, Hk⟩; iapply Hk; iexact HQ))
  iapply (wp_frame_r frame (wpE (defs₀ (F := F)) 𝒱₀ (c : Thread nD τ) none))
  isplitl [Hw] <;> iassumption

/-- A loop over a list, each turn of which takes its own part, gives its own and pays its own debt. -/
theorem T.each_list {ι : Type} [DecidableEq ι] {c : Dev nD} {n : ℕ} (A B : ι → sProp 𝕄) (I : CellTallies nD τ sig Unit → sProp 𝕄)
    (D : ι → CellTallies nD τ sig Unit) (hD : ∀ j, Above n (D j)) (b : ι → TcProg F PUnit)
    (h : ∀ j O, Above n O → T m K c iprop(A j ∗ I (D j + O)) (b j) iprop(B j ∗ I O)) :
    ∀ (l : List ι), l.Nodup → ∀ O, Above n O →
      T m K c iprop(bigSep l.toFinset A ∗ I ((l.map D).sum + O)) (each l b) iprop(bigSep l.toFinset B ∗ I O)
  | [], _, O, _ => by
    unfold T each wpT
    rw [List.map_nil, List.sum_nil, zero_add, List.toFinset_nil, bigSep_empty, bigSep_empty, wp_pure]
    iintro ⟨-, H⟩; imodintro; iexact H
  | j :: l, hl, O, hO => by
    have hn := List.nodup_cons.mp hl
    have ih := T.each_list A B I D hD b h l hn.2 O hO
    have hsum : Above n ((l.map D).sum + O) := by
      refine Above.add ?_ hO
      clear ih hn hl
      induction l with
      | nil => exact Above.zero n
      | cons i l il => rw [List.map_cons, List.sum_cons]; exact (hD i).add il
    have h1 := h j _ hsum
    have hnot : j ∉ l.toFinset := by rw [List.mem_toFinset]; exact hn.1
    have e (Φ : ι → sProp 𝕄) : bigSep (insert j l.toFinset) Φ = iprop(Φ j ∗ bigSep l.toFinset Φ) := bigSep_insert hnot
    unfold T each wpT
    rw [List.map_cons, List.sum_cons, add_assoc, List.toFinset_cons, e, e, wp_bind]
    iintro ⟨#Hc, ⟨HA, HAs⟩, HI⟩
    iapply (h1.use m K) $$ [HA HI]
    · isplitr; · iexact Hc
      isplitl [HA] <;> iassumption
    iintro ⟨HB, HI⟩
    iapply (ih.use m K) $$ [HAs HI]
    · isplitr; · iexact Hc
      isplitl [HAs] <;> iassumption
    iintro ⟨HBs, HI⟩
    isplitl [HB HBs]
    · isplitl [HB] <;> iassumption
    · iexact HI

/-- The loop's list is all eight chunks. -/
theorem chunks_toFinset : chunks.toFinset = Finset.univ := by decide
/-- Each once. -/
theorem chunks_nodup : chunks.Nodup := by decide

/-- The loop over the eight chunks: what each takes and gives, and what is owed. -/
theorem T.each {c : Dev nD} {n : ℕ} (A B : Fin 8 → sProp 𝕄) (I : CellTallies nD τ sig Unit → sProp 𝕄)
    (D : Fin 8 → CellTallies nD τ sig Unit) (hD : ∀ j, Above n (D j)) (b : Fin 8 → TcProg F PUnit)
    (h : ∀ j O, Above n O → T m K c iprop(A j ∗ I (D j + O)) (b j) iprop(B j ∗ I O)) (O : CellTallies nD τ sig Unit) (hO : Above n O) :
    T m K c iprop(bigSep Finset.univ A ∗ I ((∑ j, D j) + O)) (ArLn.each chunks b) iprop(bigSep Finset.univ B ∗ I O) := by
  have := T.each_list m K A B I D hD b h chunks chunks_nodup O hO
  rw [chunks_toFinset] at this
  have e : ∑ j, D j = (chunks.map D).sum := by
    rw [Fin.sum_univ_def]; rfl
  rw [e]
  exact this

/-- The same when nothing is owed on the way. -/
theorem T.each_free {c : Dev nD} (A B : Fin 8 → sProp 𝕄) (I : sProp 𝕄) (b : Fin 8 → TcProg F PUnit)
    (h : ∀ j, T m K c iprop(A j ∗ I) (b j) iprop(B j ∗ I)) :
    T m K c iprop(bigSep Finset.univ A ∗ I) (ArLn.each chunks b) iprop(bigSep Finset.univ B ∗ I) :=
  T.each m K (n := 0) A B (fun _ => I) (fun _ => 0) (fun _ => Above.zero 0) b (fun j _ _ => h j) 0 (Above.zero 0)

end Cert.ArLn

end
-- ==== Proof.Phases.lean ====
module

public import proofs.«01_k».proof.Proof.Steps
public import Idealize.ShloMosaic.Lib.MemrefSat

@[expose] public section

/-! # What one chunk's turn of each loop does -/

noncomputable section

namespace Cert.ArLn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Cell → ℕ)

/-- What is owed to a landing semaphore. -/
abbrev due (n : Dev nD) (x : Cell) : CellTallies nD τ sig Unit := tallyAt (dcell n x) () (amt x)

/-! ## Loads and stores -/

section Mem
variable {sh : Shape} (c : Dev nD)

/-- A load from a buffer holding `X`. -/
theorem step_load (M : Memref sig .tc .vmem sh .f32) (r : Rect sh) (hl) (q : PosShare TreeShare) (X : Vec F sh .f32) (Q : Vec F r.shape .f32 → sProp 𝕄) :
    at_ c M q X ⊢ iprop((at_ c M q X -∗ Q (fun i => X (r.emb i))) -∗ wpT c (Prog.lift (.load M r.toLoadRect hl)) Q) := by
  unfold at_ owns
  iintro ⟨%f, %hf, H⟩ Hk
  subst hf
  simp only [Prog.lift]
  iapply (wp_load 𝒱₀ (c : Thread nD τ) none Set.univ (m := M) (View.setOn_subset_set _ _)) $$ H
  iintro H
  rw [wp_ret]; imodintro
  rw [show M.view.readAt (Elt F) r.toLoadRect f = fun i => M.view.read (Elt F) f (r.emb i) from rfl]
  iapply Hk
  iexists f
  isplitr; · ipureintro; rfl
  iexact H

/-- A load of exactly a piece held. -/
theorem step_load_slice (M : Memref sig .tc .vmem sh .f32) (r : Rect sh) (hr : ∀ a, r.stride a = 1) (hl) (q : PosShare TreeShare)
    (X : Vec F r.shape .f32) (Q : Vec F r.shape .f32 → sProp 𝕄) :
    at_ c (M.slice r hr) q X ⊢ iprop((at_ c (M.slice r hr) q X -∗ Q X) -∗ wpT c (Prog.lift (.load M r.toLoadRect hl)) Q) := by
  unfold at_ owns
  iintro ⟨%f, %hf, H⟩ Hk
  simp only [Prog.lift]
  iapply (wp_load 𝒱₀ (c : Thread nD τ) none Set.univ (m := M) (S := (M.slice r hr).view.set)
    (show M.view.setOn r.set ⊆ (M.view.slice r).set from by rw [View.set_slice]; exact subset_rfl)) $$ H
  iintro H
  rw [wp_ret]; imodintro
  rw [show M.view.readAt (Elt F) r.toLoadRect f = X from hf]
  iapply Hk
  iexists f
  isplitr; · ipureintro; exact hf
  iexact H

/-- A store of exactly a piece held. -/
theorem step_store (M : Memref sig .tc .vmem sh .f32) (r : Rect sh) (hr : ∀ a, r.stride a = 1) (w : Vec F r.shape .f32) (hx) (hm) (Q : PUnit → sProp 𝕄) :
    any (F := F) c (M.slice r hr) ⊢ iprop((at_ c (M.slice r hr) fullShare w -∗ Q ⟨⟩) -∗ wpT c (Prog.lift (.store M r w Finset.univ hx hm)) Q) := by
  unfold any at_ owns
  iintro ⟨%X, %f, -, H⟩ Hk
  simp only [Prog.lift]
  iapply (wp_store 𝒱₀ (c : Thread nD τ) none Set.univ (m := M) (r := r) (Mk := Finset.univ) (S := (M.slice r hr).view.set) (f := f)
    (show (M.view.slice r).setOn Finset.univ ⊆ (M.view.slice r).set from View.setOn_subset_set _ _)) $$ H
  iintro H
  rw [wp_ret]; imodintro
  iapply Hk
  iexists _
  isplitr
  swap
  · iexact H
  ipureintro
  exact View.read_write_univ _ _

end Mem

section Phases
variable (c : Dev nD)

/-- A piece that holds something known holds something. -/
theorem any_intro {sp : Space} {s : Shape} (b : Memref sig .tc sp s .f32) (X : Vec F s .f32) : at_ c b fullShare X ⊢ any (F := F) c b := by
  unfold any; iintro H; iexists X; iexact H

/-- A piece that holds something holds some contents. -/
theorem any_elim {sp : Space} {s : Shape} (b : Memref sig .tc sp s .f32) : any (F := F) c b ⊢ iprop(∃ X, at_ (F := F) c b fullShare X) := by
  unfold any; exact .rfl

/-- A neighbour's quarter is not the own. -/
theorem rel_ne_zero (a : Ax) : rel a ≠ 0 := by cases a <;> decide
/-- The share of an own finished chunk that its copy to the result reads. -/
theorem outShare_zero (j : Fin 8) : outShare 0 j = fullShare.right.right := rfl
/-- The share of a forwarded chunk that its copy to the result reads. -/
theorem outShare_other (j : Fin 8) : outShare (rel (axOf j).other) j = fullShare.left := by
  unfold outShare; rw [if_neg (rel_ne_zero _), if_pos rfl]
/-- A chunk that is not forwarded is read whole. -/
theorem outShare_own : ∀ j : Fin 8, outShare (rel (axOf j)) j = fullShare := by
  intro j; unfold outShare; rw [if_neg (rel_ne_zero _), if_neg]; revert j; decide
/-- So is a chunk of the diagonal quarter. -/
theorem outShare_three : ∀ j : Fin 8, outShare 3 j = fullShare := by
  intro j; unfold outShare; rw [if_neg (by decide), if_neg]; revert j; decide

/-- Write a chunk to the result. -/
theorem step_out (r : Fin 4) (j : Fin 8) (Q : PUnit → sProp 𝕄) :
    iprop(ctx m K ∗ at_ c (vC (quarter c r) j) (outShare r j) (OUT m c (quarter c r) j) ∗ any (F := F) c (oC (quarter c r) j) ∗ idle c (.out r j))
      ⊢ iprop((pend c (.out r j) -∗ Q ⟨⟩) -∗ wpT c (outCopy c r j) Q) := by
  unfold outCopy
  simp only [vP_eq, oP_eq]
  exact step_copy m K c _ _ (.out r j) _ (outShare r j) _ (credit_o _ j) (by rw [pay_out]; iintro ⟨H1, H2⟩; isplitl [H2] <;> iassumption) Q

/-- Stage a chunk of the partial sum. -/
theorem stage_T (j : Fin 8) :
    T m K c iprop(at_ c (pC (quarter c 0) j) fullShare (PX m c (quarter c 0) j) ∗ any (F := F) c (xS j) ∗ idle c (.inp j)) (stage c j) (pend c (.inp j)) := by
  unfold T stage
  rw [pS_eq]
  iintro H
  iapply (step_copy m K c _ _ (.inp j) _ fullShare _ (credit_x j) (by rw [pay_inp]; iintro ⟨H1, H2⟩; isplitl [H2] <;> iassumption) _) $$ H
  iintro H; iexact H

/-- Send a staged chunk along `x`. -/
theorem exchange_T (j : Fin 8) (O : CellTallies nD τ sig Unit) (hO : Above 1 O) :
    T m K c iprop((pend c (.inp j) ∗ idle c (.rsS j) ∗ tok (xDev c) (.rsR j) ∗ any (F := F) (xDev c) (sS j)) ∗ ow c (due (xDev c) (.rsR j) + O))
      (exchange c j)
      iprop((fin c (.inp j) ∗ at_ c (pC (quarter c 0) j) fullShare (PX m c (quarter c 0) j) ∗ at_ c (xS j) fullShare.right (PX m c (quarter c 0) j)
        ∗ pend c (.rsS j)) ∗ ow c O) := by
  unfold T exchange
  simp only [wpT, wp_bind]
  iintro ⟨#Hc, ⟨Hp, Hi, Ht, Hd⟩, HO⟩
  iapply (step_wait m K c (.inp j) (xS j) (credit_x j) _ (((Above.tally _ (.rsR j) _ (by show 1 < 2; decide)).add hO).mono (Nat.zero_le 1))) $$ [Hp HO]
  · isplitr; · iexact Hc
    isplitl [Hp] <;> iassumption
  iintro ⟨Hf, Hpay, HO⟩
  ihave Hpay' := (Entails.of_eq (pay_inp m c j)) $$ Hpay
  icases Hpay' with ⟨HP, Hx⟩
  ihave Hx' := (owns_halves (c : Thread nD τ) (xS j) fullShare (PX m c (quarter c 0) j)).1 $$ Hx
  icases Hx' with ⟨Hl, Hr⟩
  iapply (step_send m K c (xDev c) (xS j) (sS j) (.rsS j) (.rsR j) fullShare.left (PX m c (quarter c 0) j) (credit_s j) rfl O (by rw [pay_rsS])
    (by rw [pay_rsR, xDev_xDev, quarter_xDev]) _) $$ [Hl Hd Hi Ht HO]
  · isplitr; · iexact Hc
    isplitl [Hl]; · iexact Hl
    isplitl [Hd]; · iexact Hd
    isplitl [Hi]; · iexact Hi
    isplitl [Ht] <;> iassumption
  iintro ⟨Hs, HO⟩
  isplitr [HO]
  · isplitl [Hf]; · iexact Hf
    isplitl [HP]; · iexact HP
    isplitl [Hr] <;> iassumption
  · iexact HO

/-- Compute a chunk from the staged rows and store it. -/
theorem step_compute (j : Fin 8) (Q : PUnit → sProp 𝕄) :
    iprop(at_ c (xS j) fullShare.right (PX m c (quarter c 0) j) ∗ at_ c (sS j) fullShare (PX m (xDev c) (quarter c 0) j)
        ∗ at_ c bR fullShare (RX m c) ∗ at_ c bG fullShare (GX1 m c) ∗ any (F := F) c (vC (quarter c 0) j))
      ⊢ iprop(((at_ c (xS j) fullShare.right (PX m c (quarter c 0) j) ∗ at_ c (sS j) fullShare (PX m (xDev c) (quarter c 0) j)
          ∗ at_ c bR fullShare (RX m c) ∗ at_ c bG fullShare (GX1 m c) ∗ at_ c (vC (quarter c 0) j) fullShare (OUT m c (quarter c 0) j)) -∗ Q ⟨⟩)
        -∗ wpT c (compute c j) Q) := by
  have hv : vC (quarter c 0) j = bV.slice (rect512 (k0_off3 c (chunkW j)) (k0_off3_inb c j)) (fun _ => rfl) := vS_congr (off3_eq c j).symm _ _
  have hg : (fun i => GX1 m c ((Rect.unit (s := S1x512) ![0, 0] S1x512.size inb_S1x512_S1x512_0_0).emb i)) = GX1 m c := by
    funext i; congr 1; funext a; apply Fin.ext
    match a with
    | ⟨0, _⟩ => simp [Rect.unit, Rect.emb]
    | ⟨1, _⟩ => simp [Rect.unit, Rect.emb]
  have hx : xS j = bX.slice (rect128 ![16 * j.val, 0] (inb128 j)) (fun _ => rfl) := rfl
  have hs : sS j = bS.slice (rect128 ![16 * j.val, 0] (inb128 j)) (fun _ => rfl) := rfl
  rw [OUT_own, hv, hx, hs]
  unfold compute pLoad
  simp only [wpT, wp_bind]
  iintro ⟨Hx, Hs, HR, HG, Hv⟩ Hk
  ihave Hv := (any_elim c _) $$ Hv
  icases Hv with ⟨%Y, Hv⟩
  iapply (step_load_slice c bX (rect128 ![16 * j.val, 0] (inb128 j)) (fun _ => rfl)) $$ Hx; iintro Hx
  iapply (step_load_slice c bS (rect128 ![16 * j.val, 0] (inb128 j)) (fun _ => rfl)) $$ Hs; iintro Hs
  iapply (step_load c bR (rect128 ![16 * j.val, 0] (inb128 j))) $$ HR; iintro HR
  iapply (step_load c bG (Rect.unit (s := S1x512) ![0, 0] S1x512.size inb_S1x512_S1x512_0_0)) $$ HG; iintro HG
  rw [hg]
  iapply (step_load_slice c bV (rect512 (k0_off3 c (chunkW j)) (k0_off3_inb c j)) (fun _ => rfl)) $$ Hv; iintro Hv
  ihave Hv' := (any_intro c _ _) $$ Hv
  iapply (step_store c bV (rect512 (k0_off3 c (chunkW j)) (k0_off3_inb c j)) (fun _ => rfl)) $$ Hv'; iintro Hv
  iapply Hk
  isplitl [Hx]; · iexact Hx
  isplitl [Hs]; · iexact Hs
  isplitl [HR]; · iexact HR
  isplitl [HG]; · iexact HG
  iexact Hv

/-- Send an own finished chunk along an axis. -/
theorem step_share (a : Ax) (j : Fin 8) (O : CellTallies nD τ sig Unit) (Q : PUnit → sProp 𝕄) :
    iprop(ctx m K ∗ at_ c (vC (quarter c 0) j) (s1Share a) (OUT m c (quarter c 0) j) ∗ any (F := F) (aDev a c) (vC (quarter c 0) j) ∗ idle c (.s1 a j)
        ∗ tok (aDev a c) (.r1 a j) ∗ ow c (due (aDev a c) (.r1 a j) + O))
      ⊢ iprop(((pend c (.s1 a j) ∗ ow c O) -∗ Q ⟨⟩) -∗ wpT c (share c a j) Q) := by
  unfold share
  rw [vP_eq]
  exact step_send m K c (aDev a c) _ _ (.s1 a j) (.r1 a j) (s1Share a) _ (credit_v _ j) rfl O (by rw [pay_s1])
    (by rw [pay_r1, OUT_aDev, quarter_aDev_rel]) Q

/-- What a turn of the computing loop starts from, -/
def finPre (j : Fin 8) : sProp 𝕄 :=
  iprop(pend c (.rsR j) ∗ at_ c (xS j) fullShare.right (PX m c (quarter c 0) j) ∗ any (F := F) c (vC (quarter c 0) j)
    ∗ idle c (.s1 .y j) ∗ idle c (.s1 .z j) ∗ tok (aDev .y c) (.r1 .y j) ∗ tok (aDev .z c) (.r1 .z j)
    ∗ any (F := F) (aDev .y c) (vC (quarter c 0) j) ∗ any (F := F) (aDev .z c) (vC (quarter c 0) j)
    ∗ idle c (.out 0 j) ∗ any (F := F) c (oC (quarter c 0) j))
/-- and what it leaves. -/
def finPost (j : Fin 8) : sProp 𝕄 :=
  iprop(fin c (.rsR j) ∗ at_ c (sS j) fullShare (PX m (xDev c) (quarter c 0) j) ∗ at_ c (xS j) fullShare.right (PX m c (quarter c 0) j)
    ∗ pend c (.s1 .y j) ∗ pend c (.s1 .z j) ∗ pend c (.out 0 j))
/-- What all its turns use. -/
def finInv (O : CellTallies nD τ sig Unit) : sProp 𝕄 := iprop(at_ c bR fullShare (RX m c) ∗ at_ c bG fullShare (GX1 m c) ∗ ow c O)

/-- Compute a chunk, share it, write it out. -/
theorem finish_T (j : Fin 8) (O : CellTallies nD τ sig Unit) (hO : Above 2 O) :
    T m K c iprop(finPre m c j ∗ finInv m c ((due (aDev .y c) (.r1 .y j) + due (aDev .z c) (.r1 .z j)) + O)) (finish c j) iprop(finPost m c j ∗ finInv m c O) := by
  unfold T finish finPre finPost finInv
  simp only [wpT, wp_bind]
  rw [add_assoc]
  iintro ⟨#Hc, ⟨Hp, Hx, Hv, Hiy, Hiz, Hty, Htz, Hvy, Hvz, Hio, Ho⟩, HR, HG, HO⟩
  iapply (step_wait m K c (.rsR j) (sS j) (credit_s j) _
    ((Above.tally _ (.r1 .y j) _ (by show 2 < 3; decide)).add ((Above.tally _ (.r1 .z j) _ (by show 2 < 3; decide)).add hO))) $$ [Hp HO]
  · isplitr; · iexact Hc
    isplitl [Hp] <;> iassumption
  iintro ⟨Hf, Hs, HO⟩
  ihave Hs := (Entails.of_eq (pay_rsR m c j)) $$ Hs
  iapply (step_compute m c j) $$ [Hx Hs HR HG Hv]
  · isplitl [Hx]; · iexact Hx
    isplitl [Hs]; · iexact Hs
    isplitl [HR]; · iexact HR
    isplitl [HG] <;> iassumption
  iintro ⟨Hx, Hs, HR, HG, Hv⟩
  ihave Hv' := (owns_halves (c : Thread nD τ) (vC (quarter c 0) j) fullShare (OUT m c (quarter c 0) j)).1 $$ Hv
  icases Hv' with ⟨Hl, Hr⟩
  ihave Hr' := (owns_halves (c : Thread nD τ) (vC (quarter c 0) j) fullShare.right (OUT m c (quarter c 0) j)).1 $$ Hr
  icases Hr' with ⟨Hrl, Hrr⟩
  iapply (step_share m K c .y j) $$ [Hl Hvy Hiy Hty HO]
  · isplitr; · iexact Hc
    isplitl [Hl]; · iexact Hl
    isplitl [Hvy]; · iexact Hvy
    isplitl [Hiy]; · iexact Hiy
    isplitl [Hty] <;> iassumption
  iintro ⟨Hpy, HO⟩
  iapply (step_share m K c .z j) $$ [Hrl Hvz Hiz Htz HO]
  · isplitr; · iexact Hc
    isplitl [Hrl]; · iexact Hrl
    isplitl [Hvz]; · iexact Hvz
    isplitl [Hiz]; · iexact Hiz
    isplitl [Htz] <;> iassumption
  iintro ⟨Hpz, HO⟩
  iapply (step_out m K c 0 j) $$ [Hrr Ho Hio]
  · isplitr; · iexact Hc
    isplitl [Hrr]; · iexact Hrr
    isplitl [Ho] <;> iassumption
  iintro Hpo
  isplitr [HR HG HO]
  · isplitl [Hf]; · iexact Hf
    isplitl [Hs]; · iexact Hs
    isplitl [Hx]; · iexact Hx
    isplitl [Hpy]; · iexact Hpy
    isplitl [Hpz] <;> iassumption
  · isplitl [HR]; · iexact HR
    isplitl [HG] <;> iassumption

/-- Forward a received chunk, and write it out. -/
theorem forward_T (j : Fin 8) (O : CellTallies nD τ sig Unit) (hO : Above 3 O) :
    T m K c iprop((pend c (.r1 (axOf j).other j) ∗ idle c (.out (rel (axOf j).other) j) ∗ any (F := F) c (oC (quarter c (rel (axOf j).other)) j) ∗ idle c (.s2 j)
          ∗ tok (aDev (axOf j) c) (.r2 j) ∗ any (F := F) (aDev (axOf j) c) (vC (quarter c (rel (axOf j).other)) j))
        ∗ ow c (due (aDev (axOf j) c) (.r2 j) + O))
      (forward c j)
      iprop((fin c (.r1 (axOf j).other j) ∗ pend c (.out (rel (axOf j).other) j) ∗ pend c (.s2 j)) ∗ ow c O) := by
  unfold T forward
  simp only [wpT, wp_bind]
  iintro ⟨#Hc, ⟨Hp, Hio, Ho, Hi2, Ht, Hd⟩, HO⟩
  iapply (step_wait m K c (.r1 (axOf j).other j) (vP c 0 j) (by rw [vP_eq]; exact credit_v _ j) _
    ((Above.tally _ (.r2 j) _ (by show 3 < 4; decide)).add hO)) $$ [Hp HO]
  · isplitr; · iexact Hc
    isplitl [Hp] <;> iassumption
  iintro ⟨Hf, Hv, HO⟩
  ihave Hv := (Entails.of_eq (pay_r1 m c (axOf j).other j)) $$ Hv
  ihave Hv' := (owns_halves (c : Thread nD τ) (vC (quarter c (rel (axOf j).other)) j) fullShare (OUT m c (quarter c (rel (axOf j).other)) j)).1 $$ Hv
  icases Hv' with ⟨Hl, Hr⟩
  iapply (step_out m K c (rel (axOf j).other) j) $$ [Hl Ho Hio]
  · isplitr; · iexact Hc
    isplitl [Hl]; · rw [outShare_other]; iexact Hl
    isplitl [Ho] <;> iassumption
  iintro Hpo
  rw [vP_eq]
  iapply (step_send m K c (aDev (axOf j) c) _ _ (.s2 j) (.r2 j) fullShare.right (OUT m c (quarter c (rel (axOf j).other)) j) (credit_v _ j) rfl O
    (by rw [pay_s2]) (by rw [pay_r2, OUT_aDev, quarter_aDev_three])) $$ [Hr Hd Hi2 Ht HO]
  · isplitr; · iexact Hc
    isplitl [Hr]; · iexact Hr
    isplitl [Hd]; · iexact Hd
    isplitl [Hi2]; · iexact Hi2
    isplitl [Ht] <;> iassumption
  iintro ⟨Hp2, HO⟩
  isplitr [HO]
  · isplitl [Hf]; · iexact Hf
    isplitl [Hpo] <;> iassumption
  · iexact HO

/-- Write out a chunk received across the other axis. -/
theorem second_T (j : Fin 8) :
    T m K c iprop((pend c (.r1 (axOf j) j) ∗ idle c (.out (rel (axOf j)) j) ∗ any (F := F) c (oC (quarter c (rel (axOf j))) j)) ∗ ow c 0)
      (second c j) iprop((fin c (.r1 (axOf j) j) ∗ pend c (.out (rel (axOf j)) j)) ∗ ow c 0) := by
  unfold T second
  simp only [wpT, wp_bind]
  iintro ⟨#Hc, ⟨Hp, Hio, Ho⟩, HO⟩
  iapply (step_wait m K c (.r1 (axOf j) j) (vP c 0 j) (by rw [vP_eq]; exact credit_v _ j) _ (Above.zero _)) $$ [Hp HO]
  · isplitr; · iexact Hc
    isplitl [Hp] <;> iassumption
  iintro ⟨Hf, Hv, HO⟩
  iapply (step_out m K c (rel (axOf j)) j) $$ [Hv Ho Hio]
  · isplitr; · iexact Hc
    isplitl [Hv]; · rw [outShare_own, ← pay_r1]; iexact Hv
    isplitl [Ho] <;> iassumption
  iintro Hpo
  isplitr [HO]
  · isplitl [Hf] <;> iassumption
  · iexact HO

/-- Write out a chunk of the diagonal quarter. -/
theorem third_T (j : Fin 8) :
    T m K c iprop((pend c (.r2 j) ∗ idle c (.out 3 j) ∗ any (F := F) c (oC (quarter c 3) j)) ∗ ow c 0)
      (third c j) iprop((fin c (.r2 j) ∗ pend c (.out 3 j)) ∗ ow c 0) := by
  unfold T third
  simp only [wpT, wp_bind]
  iintro ⟨#Hc, ⟨Hp, Hio, Ho⟩, HO⟩
  iapply (step_wait m K c (.r2 j) (vP c (rel (axOf j).other) j) (by rw [vP_eq]; exact credit_v _ j) _ (Above.zero _)) $$ [Hp HO]
  · isplitr; · iexact Hc
    isplitl [Hp] <;> iassumption
  iintro ⟨Hf, Hv, HO⟩
  iapply (step_out m K c 3 j) $$ [Hv Ho Hio]
  · isplitr; · iexact Hc
    isplitl [Hv]; · rw [outShare_three, ← pay_r2]; iexact Hv
    isplitl [Ho] <;> iassumption
  iintro Hpo
  isplitr [HO]
  · isplitl [Hf] <;> iassumption
  · iexact HO

/-- A wait that yields its payload. -/
theorem wait_T (x : Cell) {sp : Space} {s : Shape} (dst : Memref sig .tc sp s .f32) (hN : dst.view.dmaCredit = amt x) :
    T m K c iprop(pend c x ∗ ow c 0) (pWait x dst) iprop((fin c x ∗ pay m c x) ∗ ow c 0) := by
  unfold T
  iintro H
  iapply (step_wait m K c x dst hN 0 (Above.zero _)) $$ H
  iintro ⟨Hf, Hp, HO⟩
  isplitr [HO]
  · isplitl [Hf] <;> iassumption
  · iexact HO

/-- Await the sends of a chunk. -/
theorem drain_T (j : Fin 8) :
    T m K c iprop((pend c (.rsS j) ∗ pend c (.s1 .y j) ∗ pend c (.s1 .z j) ∗ pend c (.s2 j)) ∗ ow c 0) (drain c j)
      iprop(((fin c (.rsS j) ∗ pay m c (.rsS j)) ∗ (fin c (.s1 .y j) ∗ pay m c (.s1 .y j)) ∗ (fin c (.s1 .z j) ∗ pay m c (.s1 .z j))
        ∗ (fin c (.s2 j) ∗ pay m c (.s2 j))) ∗ ow c 0) := by
  unfold T drain
  simp only [wpT, wp_bind]
  iintro ⟨#Hc, ⟨H1, H2, H3, H4⟩, HO⟩
  iapply ((wait_T m K c (.rsS j) (xS j) (credit_x j)).use m K) $$ [H1 HO]
  · isplitr; · iexact Hc
    isplitl [H1] <;> iassumption
  iintro ⟨H1, HO⟩
  iapply ((wait_T m K c (.s1 .y j) (vP c 0 j) (by rw [vP_eq]; exact credit_v _ j)).use m K) $$ [H2 HO]
  · isplitr; · iexact Hc
    isplitl [H2] <;> iassumption
  iintro ⟨H2, HO⟩
  iapply ((wait_T m K c (.s1 .z j) (vP c 0 j) (by rw [vP_eq]; exact credit_v _ j)).use m K) $$ [H3 HO]
  · isplitr; · iexact Hc
    isplitl [H3] <;> iassumption
  iintro ⟨H3, HO⟩
  iapply ((wait_T m K c (.s2 j) (vP c (rel (axOf j).other) j) (by rw [vP_eq]; exact credit_v _ j)).use m K) $$ [H4 HO]
  · isplitr; · iexact Hc
    isplitl [H4] <;> iassumption
  iintro ⟨H4, HO⟩
  isplitr [HO]
  · isplitl [H1]; · iexact H1
    isplitl [H2]; · iexact H2
    isplitl [H3] <;> iassumption
  · iexact HO

end Phases

end Cert.ArLn

end
-- ==== Proof.Families.lean ====
module

public import proofs.«01_k».proof.Proof.Phases

@[expose] public section

/-! # Families over the semaphores, and the quarters of a buffer by use -/

noncomputable section

namespace Cert.ArLn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores, thirteen to a chunk and two more -/

/-- The semaphores of a chunk. -/
def chunkCell (j : Fin 8) : Fin 13 → Cell
  | 0 => .inp j
  | 1 => .rsS j
  | 2 => .rsR j
  | 3 => .s1 .y j
  | 4 => .s1 .z j
  | 5 => .r1 (axOf j).other j
  | 6 => .r1 (axOf j) j
  | 7 => .s2 j
  | 8 => .r2 j
  | 9 => .out 0 j
  | 10 => .out (rel (axOf j).other) j
  | 11 => .out (rel (axOf j)) j
  | 12 => .out 3 j

/-- The two semaphores of the residual and the weight row. -/
def loneCell : Fin 2 → Cell
  | 0 => .inR
  | 1 => .inG

/-- A semaphore from its kind and number. -/
def cellOfSum : (Fin 13 × Fin 8) ⊕ Fin 2 → Cell
  | .inl p => chunkCell p.2 p.1
  | .inr i => loneCell i

/-- Where a semaphore stands in the enumeration. -/
def sumOfCell : Cell → (Fin 13 × Fin 8) ⊕ Fin 2
  | .inp j => .inl (0, j)
  | .inR => .inr 0
  | .inG => .inr 1
  | .out r j => .inl (if r = 0 then 9 else if r = 3 then 12 else if r = rel (axOf j) then 11 else 10, j)
  | .rsS j => .inl (1, j)
  | .rsR j => .inl (2, j)
  | .s1 .y j => .inl (3, j)
  | .s1 .z j => .inl (4, j)
  | .r1 a j => .inl (if a = axOf j then 6 else 5, j)
  | .s2 j => .inl (7, j)
  | .r2 j => .inl (8, j)

/-- Back and forth changes nothing. -/
theorem sumOfCell_cellOfSum : ∀ p, sumOfCell (cellOfSum p) = p
  | .inl (i, j) => by revert i j; decide +kernel
  | .inr i => by revert i; decide
/-- Nor forth and back. -/
theorem cellOfSum_sumOfCell : ∀ x, cellOfSum (sumOfCell x) = x := by
  intro x
  cases x with
  | inp j => rfl
  | inR => rfl
  | inG => rfl
  | out r j => revert r j; decide +kernel
  | rsS j => rfl
  | rsR j => rfl
  | s1 a j => cases a <;> rfl
  | r1 a j => cases a <;> (revert j; decide +kernel)
  | s2 j => rfl
  | r2 j => rfl

/-- The semaphores, by kind and number. -/
def sumEquiv : (Fin 13 × Fin 8) ⊕ Fin 2 ≃ Cell := ⟨cellOfSum, sumOfCell, sumOfCell_cellOfSum, cellOfSum_sumOfCell⟩

/-- A family over all the semaphores, split by kind. -/
theorem cells_split (Φ : Cell → sProp 𝕄) :
    bigSep Finset.univ Φ = iprop(
      ((bigSep Finset.univ fun j : Fin 8 => Φ (.inp j)) ∗ (bigSep Finset.univ fun j : Fin 8 => Φ (.rsS j)) ∗ (bigSep Finset.univ fun j : Fin 8 => Φ (.rsR j))
      ∗ (bigSep Finset.univ fun j : Fin 8 => Φ (.s1 .y j)) ∗ (bigSep Finset.univ fun j : Fin 8 => Φ (.s1 .z j))
      ∗ (bigSep Finset.univ fun j : Fin 8 => Φ (.r1 (axOf j).other j)) ∗ (bigSep Finset.univ fun j : Fin 8 => Φ (.r1 (axOf j) j))
      ∗ (bigSep Finset.univ fun j : Fin 8 => Φ (.s2 j)) ∗ (bigSep Finset.univ fun j : Fin 8 => Φ (.r2 j))
      ∗ (bigSep Finset.univ fun j : Fin 8 => Φ (.out 0 j)) ∗ (bigSep Finset.univ fun j : Fin 8 => Φ (.out (rel (axOf j).other) j))
      ∗ (bigSep Finset.univ fun j : Fin 8 => Φ (.out (rel (axOf j)) j)) ∗ (bigSep Finset.univ fun j : Fin 8 => Φ (.out 3 j)))
      ∗ (Φ .inR ∗ Φ .inG)) := by
  rw [bigSep_univ_equiv sumEquiv Φ, bigSep_univ_sum, bigSep_univ_prod,
    bigSep_univ_eq_bigSepL [0, 1, 2, 3, 4, 5, 6, 7, 8, 9, 10, 11, 12] (by decide) (by decide)]
  rw [bigSep_univ_eq_bigSepL (I := Fin 2) [0, 1] (by decide) (by decide)]
  rfl

/-! ## The quarters by use -/

/-- The four quarters, the two received ones told apart by whether the chunk is forwarded. -/
theorem quarters_split (Φ : Fin 4 → Fin 8 → sProp 𝕄) :
    (bigSep Finset.univ fun r => bigSep Finset.univ fun j => Φ r j) = iprop(
      (bigSep Finset.univ fun j => Φ 0 j) ∗ (bigSep Finset.univ fun j => Φ (rel (axOf j).other) j)
      ∗ (bigSep Finset.univ fun j => Φ (rel (axOf j)) j) ∗ (bigSep Finset.univ fun j => Φ 3 j)) := by
  rw [bigSep_univ_comm, ← bigSep_sep', ← bigSep_sep', ← bigSep_sep']
  refine bigSep_congr fun j _ => ?_
  rw [bigSep_univ_eq_bigSepL (I := Fin 4) [0, rel (axOf j).other, rel (axOf j), 3] (by revert j; decide) (by revert j; decide)]
  rfl

end Cert.ArLn

end
-- ==== Proof.Body.lean ====
module

public import proofs.«01_k».proof.Proof.Families

@[expose] public section

/-! # A device's whole run -/

noncomputable section

namespace Cert.ArLn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Cell → ℕ) (c : Dev nD)

/-! ## The loops -/

/-- The loop when each turn needs nothing of the others. -/
theorem T.each_own (A B : Fin 8 → sProp 𝕄) (b : Fin 8 → TcProg F PUnit) (h : ∀ j, T m K c (A j) (b j) (B j)) :
    T m K c (bigSep Finset.univ A) (ArLn.each chunks b) (bigSep Finset.univ B) := by
  have h' : ∀ j, T m K c iprop(A j ∗ emp) (b j) iprop(B j ∗ emp) := fun j => by
    have e (X : sProp 𝕄) : iprop(X ∗ emp) = X := BI.equiv_iff.mp ⟨(sep_emp (PROP := sProp 𝕄)).1, (sep_emp (PROP := sProp 𝕄)).2⟩
    rw [e, e]; exact h j
  have := T.each_free m K A B iprop(emp) b h'
  have e (X : sProp 𝕄) : iprop(X ∗ emp) = X := BI.equiv_iff.mp ⟨(sep_emp (PROP := sProp 𝕄)).1, (sep_emp (PROP := sProp 𝕄)).2⟩
  rw [e, e] at this
  exact this

/-- The eight chunks of the own quarter are set on their way into fast memory. -/
theorem stages_T :
    T m K c iprop((bigSep Finset.univ fun j => at_ c (pC (quarter c 0) j) fullShare (PX m c (quarter c 0) j)) ∗ (bigSep Finset.univ fun j => any (F := F) c (xS j))
        ∗ (bigSep Finset.univ fun j => idle c (.inp j)))
      (each chunks (stage c)) (bigSep Finset.univ fun j => pend c (.inp j)) := by
  have h := T.each_own m K c _ _ _ (stage_T m K c)
  simpa only [bigSep_sep'] using h

/-- Each staged chunk, once there, is sent to the device across `x`; the right half of its share stays for the computation. -/
theorem exchanges_T (O : CellTallies nD τ sig Unit) (hO : Above 1 O) :
    T m K c iprop(((bigSep Finset.univ fun j => pend c (.inp j)) ∗ (bigSep Finset.univ fun j => idle c (.rsS j)) ∗ (bigSep Finset.univ fun j => tok (xDev c) (.rsR j))
          ∗ (bigSep Finset.univ fun j => any (F := F) (xDev c) (sS j))) ∗ ow c ((∑ j, due (xDev c) (.rsR j)) + O))
      (each chunks (exchange c))
      iprop(((bigSep Finset.univ fun j => fin c (.inp j)) ∗ (bigSep Finset.univ fun j => at_ c (pC (quarter c 0) j) fullShare (PX m c (quarter c 0) j))
        ∗ (bigSep Finset.univ fun j => at_ c (xS j) fullShare.right (PX m c (quarter c 0) j)) ∗ (bigSep Finset.univ fun j => pend c (.rsS j))) ∗ ow c O) := by
  have h := T.each m K (c := c) (n := 1) _ _ (ow c) (fun j => due (xDev c) (.rsR j)) (fun j => Above.tally _ (.rsR j) _ (by show 1 < 2; decide)) _
    (fun j O hO => exchange_T m K c j O hO) O hO
  simpa only [bigSep_sep'] using h

/-- Each chunk from across `x` is awaited, the finished rows are computed, sent to both neighbours and written to the result. -/
theorem finishes_T (O : CellTallies nD τ sig Unit) (hO : Above 2 O) :
    T m K c iprop(((bigSep Finset.univ fun j => pend c (.rsR j)) ∗ (bigSep Finset.univ fun j => at_ c (xS j) fullShare.right (PX m c (quarter c 0) j))
          ∗ (bigSep Finset.univ fun j => any (F := F) c (vC (quarter c 0) j)) ∗ (bigSep Finset.univ fun j => idle c (.s1 .y j)) ∗ (bigSep Finset.univ fun j => idle c (.s1 .z j))
          ∗ (bigSep Finset.univ fun j => tok (aDev .y c) (.r1 .y j)) ∗ (bigSep Finset.univ fun j => tok (aDev .z c) (.r1 .z j))
          ∗ (bigSep Finset.univ fun j => any (F := F) (aDev .y c) (vC (quarter c 0) j)) ∗ (bigSep Finset.univ fun j => any (F := F) (aDev .z c) (vC (quarter c 0) j))
          ∗ (bigSep Finset.univ fun j => idle c (.out 0 j)) ∗ (bigSep Finset.univ fun j => any (F := F) c (oC (quarter c 0) j)))
        ∗ finInv m c ((∑ j, (due (aDev .y c) (.r1 .y j) + due (aDev .z c) (.r1 .z j))) + O))
      (each chunks (finish c))
      iprop(((bigSep Finset.univ fun j => fin c (.rsR j)) ∗ (bigSep Finset.univ fun j => at_ c (sS j) fullShare (PX m (xDev c) (quarter c 0) j))
          ∗ (bigSep Finset.univ fun j => at_ c (xS j) fullShare.right (PX m c (quarter c 0) j)) ∗ (bigSep Finset.univ fun j => pend c (.s1 .y j))
          ∗ (bigSep Finset.univ fun j => pend c (.s1 .z j)) ∗ (bigSep Finset.univ fun j => pend c (.out 0 j))) ∗ finInv m c O) := by
  have h := T.each m K (c := c) (n := 2) _ _ (finInv m c) (fun j => due (aDev .y c) (.r1 .y j) + due (aDev .z c) (.r1 .z j))
    (fun j => (Above.tally _ (.r1 .y j) _ (by show 2 < 3; decide)).add (Above.tally _ (.r1 .z j) _ (by show 2 < 3; decide))) _
    (fun j O hO => finish_T m K c j O hO) O hO
  unfold finPre finPost at h
  simpa only [bigSep_sep'] using h

/-- The chunks to be forwarded are awaited, passed on along the other axis and written to the result. -/
theorem forwards_T (O : CellTallies nD τ sig Unit) (hO : Above 3 O) :
    T m K c iprop(((bigSep Finset.univ fun j => pend c (.r1 (axOf j).other j)) ∗ (bigSep Finset.univ fun j => idle c (.out (rel (axOf j).other) j))
          ∗ (bigSep Finset.univ fun j => any (F := F) c (oC (quarter c (rel (axOf j).other)) j)) ∗ (bigSep Finset.univ fun j => idle c (.s2 j))
          ∗ (bigSep Finset.univ fun j => tok (aDev (axOf j) c) (.r2 j))
          ∗ (bigSep Finset.univ fun j => any (F := F) (aDev (axOf j) c) (vC (quarter c (rel (axOf j).other)) j)))
        ∗ ow c ((∑ j, due (aDev (axOf j) c) (.r2 j)) + O))
      (each chunks (forward c))
      iprop(((bigSep Finset.univ fun j => fin c (.r1 (axOf j).other j)) ∗ (bigSep Finset.univ fun j => pend c (.out (rel (axOf j).other) j))
        ∗ (bigSep Finset.univ fun j => pend c (.s2 j))) ∗ ow c O) := by
  have h := T.each m K (c := c) (n := 3) _ _ (ow c) (fun j => due (aDev (axOf j) c) (.r2 j)) (fun j => Above.tally _ (.r2 j) _ (by show 3 < 4; decide)) _
    (fun j O hO => forward_T m K c j O hO) O hO
  simpa only [bigSep_sep'] using h

/-- The chunks received but not forwarded are awaited and written to the result. -/
theorem seconds_T :
    T m K c iprop(((bigSep Finset.univ fun j => pend c (.r1 (axOf j) j)) ∗ (bigSep Finset.univ fun j => idle c (.out (rel (axOf j)) j))
          ∗ (bigSep Finset.univ fun j => any (F := F) c (oC (quarter c (rel (axOf j))) j))) ∗ ow c 0)
      (each chunks (second c))
      iprop(((bigSep Finset.univ fun j => fin c (.r1 (axOf j) j)) ∗ (bigSep Finset.univ fun j => pend c (.out (rel (axOf j)) j))) ∗ ow c 0) := by
  have h := T.each_free m K (c := c) _ _ (ow c 0) _ (second_T m K c)
  simpa only [bigSep_sep'] using h

/-- The chunks of the quarter diagonally across are awaited and written to the result. -/
theorem thirds_T :
    T m K c iprop(((bigSep Finset.univ fun j => pend c (.r2 j)) ∗ (bigSep Finset.univ fun j => idle c (.out 3 j))
          ∗ (bigSep Finset.univ fun j => any (F := F) c (oC (quarter c 3) j))) ∗ ow c 0)
      (each chunks (third c))
      iprop(((bigSep Finset.univ fun j => fin c (.r2 j)) ∗ (bigSep Finset.univ fun j => pend c (.out 3 j))) ∗ ow c 0) := by
  have h := T.each_free m K (c := c) _ _ (ow c 0) _ (third_T m K c)
  simpa only [bigSep_sep'] using h

/-- What waits yield of one family. -/
abbrev done (x : Fin 8 → Cell) : sProp 𝕄 :=
  iprop((bigSep Finset.univ fun j => fin c (x j)) ∗ (bigSep Finset.univ fun j => pay m c (x j)))

/-- All sends are awaited; each gives back its share of what it sent. -/
theorem drains_T :
    T m K c iprop(((bigSep Finset.univ fun j => pend c (.rsS j)) ∗ (bigSep Finset.univ fun j => pend c (.s1 .y j)) ∗ (bigSep Finset.univ fun j => pend c (.s1 .z j))
        ∗ (bigSep Finset.univ fun j => pend c (.s2 j))) ∗ ow c 0)
      (each chunks (drain c))
      iprop((done m c (fun j => .rsS j) ∗ done m c (fun j => .s1 .y j) ∗ done m c (fun j => .s1 .z j) ∗ done m c (fun j => .s2 j)) ∗ ow c 0) := by
  have h := T.each_free m K (c := c) _ _ (ow c 0) _ (drain_T m K c)
  simpa only [bigSep_sep', done] using h

/-- Await the writes to the result of one kind of quarter. -/
theorem outs_T (r : Fin 8 → Fin 4) :
    T m K c iprop((bigSep Finset.univ fun j => pend c (.out (r j) j)) ∗ ow c 0)
      (each chunks fun j => pWait (.out (r j) j) (oP c (r j) j))
      iprop(done m c (fun j => .out (r j) j) ∗ ow c 0) := by
  have h := T.each_free m K (c := c) _ _ (ow c 0) _ (fun j => wait_T m K c (.out (r j) j) (oP c (r j) j) (by rw [oP_eq]; exact credit_o _ j))
  simpa only [bigSep_sep', done] using h

/-! ## Lending the landing pieces -/

/-- A device's landing pieces for the other three quarters are what it lends to its `y` and `z` neighbours. -/
theorem lend_out :
    iprop((bigSep Finset.univ fun j => any (F := F) c (vC (quarter c (rel (axOf j).other)) j)) ∗ (bigSep Finset.univ fun j => any (F := F) c (vC (quarter c (rel (axOf j))) j))
        ∗ (bigSep Finset.univ fun j => any (F := F) c (vC (quarter c 3) j)))
      ⊢ iprop(lend (F := F) c 1 ∗ lend (F := F) c 2) := by
  unfold lend
  simp only [← bigSep_sep']
  refine bigSep_mono fun j _ => ?_
  unfold lendA
  cases h : axOf j
  · rw [if_pos rfl, if_neg (by decide)]
    show iprop(any (F := F) c (vC (quarter c (rel .z)) j) ∗ _ ∗ _) ⊢ _
    iintro ⟨H1, H2, H3⟩
    isplitl [H2 H3]
    · isplitl [H2] <;> iassumption
    isplitl [H1]; · iexact H1
    iempintro
  · rw [if_neg (by decide), if_pos rfl]
    show iprop(any (F := F) c (vC (quarter c (rel .y)) j) ∗ _ ∗ _) ⊢ _
    iintro ⟨H1, H2, H3⟩
    isplitl [H1]
    · isplitl [H1]; · iexact H1
      iempintro
    isplitl [H2] <;> iassumption

/-- What the `y` and `z` neighbours lend are the places that this device's finished and forwarded chunks are written to. -/
theorem lend_in :
    iprop(lend (F := F) (aDev .y c) 1 ∗ lend (F := F) (aDev .z c) 2)
      ⊢ iprop((bigSep Finset.univ fun j => any (F := F) (aDev .y c) (vC (quarter c 0) j)) ∗ (bigSep Finset.univ fun j => any (F := F) (aDev .z c) (vC (quarter c 0) j))
        ∗ (bigSep Finset.univ fun j => any (F := F) (aDev (axOf j) c) (vC (quarter c (rel (axOf j).other)) j))) := by
  unfold lend
  simp only [← bigSep_sep']
  refine bigSep_mono fun j _ => ?_
  unfold lendA
  rw [quarter_aDev_rel, quarter_aDev_rel, quarter_aDev_three, quarter_aDev_three]
  cases h : axOf j
  · rw [if_pos rfl, if_neg (by decide)]
    show (_ : sProp 𝕄) ⊢ _
    iintro ⟨⟨H1, H2⟩, H3, -⟩
    isplitl [H1]; · iexact H1
    isplitl [H3] <;> iassumption
  · rw [if_neg (by decide), if_pos rfl]
    show (_ : sProp 𝕄) ⊢ _
    iintro ⟨⟨H1, -⟩, H3, H2⟩
    isplitl [H1]; · iexact H1
    isplitl [H3] <;> iassumption

/-! ## The weight row's buffer -/

/-- The weight row, as a vector, is the whole of its buffer. -/
theorem gS_set : gS.view.set = Finset.univ := by
  apply Finset.eq_univ_of_card
  rw [View.card_set]
  decide

/-- Where the row's entries lie in the buffer. -/
theorem gS_emb (i : S512.Idx) : (gS.view.emb i (1 : Fin 2)).val = (i 0).val := by
  have h := Shape.reshapeEquiv_cons_one (d := S512.size) squeezes_S1x512_S512.numel_eq i
  show 0 + 1 * (Shape.reshapeEquiv squeezes_S1x512_S512.numel_eq i (1 : Fin 2)).val = (i 0).val
  rw [h]; show 0 + 1 * (i 0).val = _; omega

/-- The staged row, as a matrix of one row. -/
theorem gS_bG : at_ c gS fullShare (GX m c) ⊢ at_ c bG fullShare (GX1 m c) := by
  unfold at_ owns
  iintro ⟨%f, %hf, H⟩
  iexists f
  isplitr
  · ipureintro
    funext i
    unfold GX1
    rw [← hf]
    show f i = f (gS.view.emb _)
    congr 1
    funext a
    match a with
    | ⟨0, _⟩ => exact Subsingleton.elim (α := Fin 1) _ _
    | ⟨1, _⟩ =>
      symm
      refine Fin.ext ?_
      exact gS_emb _
  · rw [View.set_whole]; rw [gS_set]; iexact H

/-! ## The ends of the run -/

/-- A family over both axes, by axis or by whether the chunk is forwarded. -/
theorem axes_split (Φ : Ax → Fin 8 → sProp 𝕄) :
    iprop((bigSep Finset.univ fun j => Φ (axOf j).other j) ∗ (bigSep Finset.univ fun j => Φ (axOf j) j))
      ⊢ iprop((bigSep Finset.univ fun j => Φ .y j) ∗ (bigSep Finset.univ fun j => Φ .z j)) := by
  simp only [← bigSep_sep']
  refine bigSep_mono fun j _ => ?_
  cases axOf j
  · show iprop(Φ .z j ∗ Φ .y j) ⊢ _
    iintro ⟨H1, H2⟩
    isplitl [H2] <;> iassumption
  · show iprop(Φ .y j ∗ Φ .z j) ⊢ iprop(Φ .y j ∗ Φ .z j)
    iintro H; iexact H

/-- The two shares of a staged chunk, together again. -/
theorem xS_end :
    iprop((bigSep Finset.univ fun j => at_ c (xS j) fullShare.right (PX m c (quarter c 0) j)) ∗ (bigSep Finset.univ fun j => pay m c (.rsS j)))
      ⊢ (bigSep Finset.univ fun j => any (F := F) c (xS j)) := by
  rw [← bigSep_sep']
  refine bigSep_mono fun j _ => ?_
  rw [pay_rsS]
  show (_ : sProp 𝕄) ⊢ _
  iintro ⟨Hr, Hl⟩
  iapply (any_intro c (xS j) (PX m c (quarter c 0) j))
  iapply (owns_halves (c : Thread nD τ) (xS j) fullShare (PX m c (quarter c 0) j)).2
  isplitl [Hl] <;> iassumption

/-- The finished rows' buffer and the result, from what the last waits yield. -/
theorem vC_end (j : Fin 8) :
    iprop(pay m c (.s1 .y j) ∗ pay m c (.s1 .z j) ∗ pay m c (.s2 j) ∗ pay m c (.out 0 j) ∗ pay m c (.out (rel (axOf j).other) j)
        ∗ pay m c (.out (rel (axOf j)) j) ∗ pay m c (.out 3 j))
      ⊢ iprop((any (F := F) c (vC (quarter c 0) j) ∗ any (F := F) c (vC (quarter c (rel (axOf j).other)) j)
          ∗ any (F := F) c (vC (quarter c (rel (axOf j))) j) ∗ any (F := F) c (vC (quarter c 3) j))
        ∗ at_ c (oC (quarter c 0) j) fullShare (OUT m c (quarter c 0) j)
        ∗ at_ c (oC (quarter c (rel (axOf j).other)) j) fullShare (OUT m c (quarter c (rel (axOf j).other)) j)
        ∗ at_ c (oC (quarter c (rel (axOf j))) j) fullShare (OUT m c (quarter c (rel (axOf j))) j)
        ∗ at_ c (oC (quarter c 3) j) fullShare (OUT m c (quarter c 3) j)) := by
  rw [pay_s1, pay_s1, pay_s2, pay_out, pay_out, pay_out, pay_out, outShare_zero, outShare_other, outShare_own, outShare_three]
  iintro ⟨Hy, Hz, H2, ⟨V0, O0⟩, ⟨V1, O1⟩, ⟨V2, O2⟩, V3, O3⟩
  isplitr [O0 O1 O2 O3]
  · isplitl [Hy Hz V0]
    · iapply (any_intro c (vC (quarter c 0) j) (OUT m c (quarter c 0) j))
      iapply (owns_halves (c : Thread nD τ) (vC (quarter c 0) j) fullShare (OUT m c (quarter c 0) j)).2
      isplitl [Hy]; · iexact Hy
      iapply (owns_halves (c : Thread nD τ) (vC (quarter c 0) j) fullShare.right (OUT m c (quarter c 0) j)).2
      isplitl [Hz]; · iexact Hz
      iexact V0
    isplitl [H2 V1]
    · iapply (any_intro c _ (OUT m c (quarter c (rel (axOf j).other)) j))
      iapply (owns_halves (c : Thread nD τ) (vC (quarter c (rel (axOf j).other)) j) fullShare (OUT m c (quarter c (rel (axOf j).other)) j)).2
      isplitl [V1] <;> iassumption
    isplitl [V2]
    · iapply (any_intro c _ (OUT m c (quarter c (rel (axOf j))) j)); iexact V2
    · iapply (any_intro c _ (OUT m c (quarter c 3) j)); iexact V3
  isplitl [O0]; · iexact O0
  isplitl [O1]; · iexact O1
  isplitl [O2] <;> iassumption

/-- All chunks of the finished rows' buffer and of the result, from what the last waits yield. -/
theorem outs_end :
    iprop((bigSep Finset.univ fun j => pay m c (.s1 .y j)) ∗ (bigSep Finset.univ fun j => pay m c (.s1 .z j)) ∗ (bigSep Finset.univ fun j => pay m c (.s2 j))
        ∗ (bigSep Finset.univ fun j => pay m c (.out 0 j)) ∗ (bigSep Finset.univ fun j => pay m c (.out (rel (axOf j).other) j))
        ∗ (bigSep Finset.univ fun j => pay m c (.out (rel (axOf j)) j)) ∗ (bigSep Finset.univ fun j => pay m c (.out 3 j)))
      ⊢ iprop((bigSep Finset.univ fun r => bigSep Finset.univ fun j => any (F := F) c (vC (quarter c r) j))
        ∗ (bigSep Finset.univ fun r => bigSep Finset.univ fun j => at_ c (oC (quarter c r) j) fullShare (OUT m c (quarter c r) j))) := by
  rw [quarters_split, quarters_split]
  simp only [← bigSep_sep']
  exact bigSep_mono fun j _ => vC_end m c j

/-! ## The whole run -/

/-- What device `c` starts with of a DMA semaphore: for one that a neighbour fills, the right to pay
the neighbour's and the promise for its own; for the others, the right to pay its own. -/
def cellPre : Cell → sProp 𝕄
  | .rsR j => iprop(tok (xDev c) (.rsR j) ∗ pend c (.rsR j))
  | .r1 a j => iprop(tok (aDev a c) (.r1 a j) ∗ pend c (.r1 a j))
  | .r2 j => iprop(tok (aDev (axOf j) c) (.r2 j) ∗ pend c (.r2 j))
  | .inp j => idle c (.inp j)
  | .inR => idle c .inR
  | .inG => idle c .inG
  | .out r j => idle c (.out r j)
  | .rsS j => idle c (.rsS j)
  | .s1 a j => idle c (.s1 a j)
  | .s2 j => idle c (.s2 j)

/-- What device `c` starts with of the barrier: the right to signal its three neighbours, the promise of their signals. -/
def barPre : sProp 𝕄 :=
  iprop((dutyTok ER (bcell (xDev c)) 0 0 ∗ dutyTok ER (bcell (aDev .y c)) 0 1 ∗ dutyTok ER (bcell (aDev .z c)) 0 2)
    ∗ (cred (tallyAt (bcell c) () 3) ∗ atPos ER (bcell c) 0 ∅ 0))

/-- The pieces of its buffers that device `c` starts with. -/
def bufPre : sProp 𝕄 :=
  iprop((bigSep Finset.univ fun j => at_ c (pC (quarter c 0) j) fullShare (PX m c (quarter c 0) j)) ∗ at_ c (rC (quarter c 0)) fullShare (RX m c)
    ∗ at_ c mG fullShare (GX m c) ∗ (bigSep Finset.univ fun j => any (F := F) c (xS j)) ∗ any (F := F) c bR ∗ any (F := F) c gS
    ∗ (bigSep Finset.univ fun j => any (F := F) c (sS j))
    ∗ (bigSep Finset.univ fun r => bigSep Finset.univ fun j => any (F := F) c (vC (quarter c r) j))
    ∗ (bigSep Finset.univ fun r => bigSep Finset.univ fun j => any (F := F) c (oC (quarter c r) j)))

/-- What device `c` owes the others. -/
def O₀ : CellTallies nD τ sig Unit :=
  tallyAt (bcell (xDev c)) () 1 + (tallyAt (bcell (aDev .y c)) () 1 + (tallyAt (bcell (aDev .z c)) () 1
    + ((∑ j, due (xDev c) (.rsR j)) + ((∑ j, (due (aDev .y c) (.r1 .y j) + due (aDev .z c) (.r1 .z j))) + ((∑ j, due (aDev (axOf j) c) (.r2 j)) + 0)))))

/-- The pieces it ends with: the result's hold the finished rows. -/
def bufPost : sProp 𝕄 :=
  iprop((bigSep Finset.univ fun j => at_ c (pC (quarter c 0) j) fullShare (PX m c (quarter c 0) j)) ∗ at_ c (rC (quarter c 0)) fullShare (RX m c)
    ∗ at_ c mG fullShare (GX m c) ∗ (bigSep Finset.univ fun j => any (F := F) c (xS j)) ∗ any (F := F) c bR ∗ any (F := F) c bG
    ∗ (bigSep Finset.univ fun j => any (F := F) c (sS j))
    ∗ (bigSep Finset.univ fun r => bigSep Finset.univ fun j => any (F := F) c (vC (quarter c r) j))
    ∗ (bigSep Finset.univ fun r => bigSep Finset.univ fun j => at_ c (oC (quarter c r) j) fullShare (OUT m c (quarter c r) j)))

/-- The forwarded chunks owed are owed at the highest level. -/
theorem O_r2 : Above 3 ((∑ j, due (aDev (axOf j) c) (.r2 j)) + 0) :=
  (Above.sum _ _ fun j => Above.tally _ (.r2 j) _ (by show 3 < 4; decide)).add (Above.zero _)
/-- The finished chunks owed, and what is owed after them, lie above the arrivals along `x`. -/
theorem O_r1 : Above 2 ((∑ j, (due (aDev .y c) (.r1 .y j) + due (aDev .z c) (.r1 .z j))) + ((∑ j, due (aDev (axOf j) c) (.r2 j)) + 0)) :=
  (Above.sum _ _ fun j => (Above.tally _ (.r1 .y j) _ (by show 2 < 3; decide)).add (Above.tally _ (.r1 .z j) _ (by show 2 < 3; decide))).add
    ((O_r2 c).mono (by decide))
/-- Everything owed after the barrier lies above the barrier. -/
theorem O_rs : Above 1 ((∑ j, due (xDev c) (.rsR j)) + ((∑ j, (due (aDev .y c) (.r1 .y j) + due (aDev .z c) (.r1 .z j))) + ((∑ j, due (aDev (axOf j) c) (.r2 j)) + 0))) :=
  (Above.sum _ _ fun j => Above.tally _ (.rsR j) _ (by show 1 < 2; decide)).add ((O_r1 c).mono (by decide))

/-- The signals to the neighbours lend them their landing pieces; the wait for theirs borrows the pieces written here. -/
theorem barrier_T (O : CellTallies nD τ sig Unit) (hO : Above 1 O) :
    T m K c iprop(barPre (F := F) c ∗ (lend (F := F) c 0 ∗ lend (F := F) c 1 ∗ lend (F := F) c 2)
        ∗ ow c (tallyAt (bcell (xDev c)) () 1 + (tallyAt (bcell (aDev .y c)) () 1 + (tallyAt (bcell (aDev .z c)) () 1 + O))))
      (barrier c)
      iprop(semVal (bcell c) 0 ∗ (lend (F := F) (xDev c) 0 ∗ lend (F := F) (aDev .y c) 1 ∗ lend (F := F) (aDev .z c) 2) ∗ ow c O) := by
  have e (i : Fin 3) : lend (F := F) c i = lend (F := F) (nbr i (nbr i c)) i := by rw [nbr_nbr]
  unfold T barrier barPre
  simp only [wpT, wp_bind]
  rw [e 0, e 1, e 2]
  iintro ⟨#Hc, ⟨⟨T0, T1, T2⟩, Hcr⟩, ⟨L0, L1, L2⟩, HO⟩
  iapply (step_signal m K c 0 (xDev c)) $$ [T0 L0 HO]
  · isplitr; · iexact Hc
    isplitl [T0]; · iexact T0
    isplitl [L0]; · iexact L0
    iexact HO
  iintro HO
  iapply (step_signal m K c 1 (aDev .y c)) $$ [T1 L1 HO]
  · isplitr; · iexact Hc
    isplitl [T1]; · iexact T1
    isplitl [L1]; · iexact L1
    iexact HO
  iintro HO
  iapply (step_signal m K c 2 (aDev .z c)) $$ [T2 L2 HO]
  · isplitr; · iexact Hc
    isplitl [T2]; · iexact T2
    isplitl [L2]; · iexact L2
    iexact HO
  iintro HO
  iapply (step_barrier m K c O hO) $$ [Hcr HO]
  · isplitr; · iexact Hc
    isplitl [Hcr] <;> iassumption
  iintro H
  iexact H

/-- What a device lends to the device across `x` is its buffer for that device's partial sum. -/
theorem lend_zero : lend (F := F) c 0 = bigSep Finset.univ fun j => any (F := F) c (sS j) := rfl

/-- Staging, and the barrier. -/
theorem open_T (O : CellTallies nD τ sig Unit) (hO : Above 1 O) :
    T m K c iprop(((bigSep Finset.univ fun j => idle c (.inp j)) ∗ idle c .inR ∗ idle c .inG) ∗ barPre (F := F) c ∗ bufPre m c
        ∗ ow c (tallyAt (bcell (xDev c)) () 1 + (tallyAt (bcell (aDev .y c)) () 1 + (tallyAt (bcell (aDev .z c)) () 1 + O))))
      (each chunks (stage c) >>= fun _ => pCopy (rS (k0_off2 c) (k0_off2_inb c)) bR .inR ⟨Or.inl rfl, trivial⟩ >>= fun _ =>
        pCopy mG gS .inG ⟨Or.inl rfl, trivial⟩ >>= fun _ => barrier c)
      iprop(((bigSep Finset.univ fun j => pend c (.inp j)) ∗ pend c .inR ∗ pend c .inG) ∗ semVal (bcell c) 0
        ∗ ((bigSep Finset.univ fun j => any (F := F) (xDev c) (sS j))
          ∗ (bigSep Finset.univ fun j => any (F := F) (aDev .y c) (vC (quarter c 0) j)) ∗ (bigSep Finset.univ fun j => any (F := F) (aDev .z c) (vC (quarter c 0) j))
          ∗ (bigSep Finset.univ fun j => any (F := F) (aDev (axOf j) c) (vC (quarter c (rel (axOf j).other)) j)))
        ∗ (bigSep Finset.univ fun j => any (F := F) c (vC (quarter c 0) j))
        ∗ (bigSep Finset.univ fun r => bigSep Finset.univ fun j => any (F := F) c (oC (quarter c r) j)) ∗ ow c O) := by
  unfold T bufPre
  simp only [wpT, wp_bind]
  rw [rS_eq, quarters_split (fun r j => any (F := F) c (vC (quarter c r) j))]
  iintro ⟨#Hc, ⟨Ip, IR, IG⟩, Hbar, ⟨HP, HR, HG, HX, HbR, HbG, HS, ⟨V0, V1, V2, V3⟩, HO⟩, Hw⟩
  iapply ((stages_T m K c).use m K) $$ [Ip HP HX]
  · isplitr; · iexact Hc
    isplitl [HP]; · iexact HP
    isplitl [HX] <;> iassumption
  iintro Pp
  iapply (step_copy m K c (rC (quarter c 0)) bR .inR _ fullShare (RX m c) rfl (by rw [pay_inR]; iintro ⟨H1, H2⟩; isplitl [H2] <;> iassumption) _) $$ [HR HbR IR]
  · isplitr; · iexact Hc
    isplitl [HR]; · iexact HR
    isplitl [HbR] <;> iassumption
  iintro PR
  iapply (step_copy m K c mG gS .inG _ fullShare (GX m c) rfl (by rw [pay_inG]; iintro ⟨H1, H2⟩; isplitl [H2] <;> iassumption) _) $$ [HG HbG IG]
  · isplitr; · iexact Hc
    isplitl [HG]; · iexact HG
    isplitl [HbG] <;> iassumption
  iintro PG
  ihave HL := (lend_out (F := F) c) $$ [V1 V2 V3]
  · isplitl [V1]; · iexact V1
    isplitl [V2] <;> iassumption
  icases HL with ⟨L1, L2⟩
  iapply ((barrier_T m K c O hO).use m K) $$ [Hbar HS L1 L2 Hw]
  · isplitr; · iexact Hc
    isplitl [Hbar]; · iexact Hbar
    isplitl [HS L1 L2]
    · isplitl [HS]; · rw [lend_zero]; iexact HS
      isplitl [L1] <;> iassumption
    iexact Hw
  iintro ⟨Hz, ⟨L0, L1, L2⟩, Hw⟩
  ihave HL := (lend_in (F := F) c) $$ [L1 L2]
  · isplitl [L1] <;> iassumption
  icases HL with ⟨L1, L2, L3⟩
  isplitl [Pp PR PG]
  · isplitl [Pp]; · iexact Pp
    isplitl [PR] <;> iassumption
  isplitl [Hz]; · iexact Hz
  isplitl [L0 L1 L2 L3]
  · isplitl [L0]; · rw [← lend_zero]; iexact L0
    isplitl [L1]; · iexact L1
    isplitl [L2] <;> iassumption
  isplitl [V0]; · iexact V0
  isplitl [HO] <;> iassumption

/-- The last waits: all the sends and all the writes to the result. -/
theorem close_T :
    T m K c iprop((((bigSep Finset.univ fun j => pend c (.rsS j)) ∗ (bigSep Finset.univ fun j => pend c (.s1 .y j)) ∗ (bigSep Finset.univ fun j => pend c (.s1 .z j))
          ∗ (bigSep Finset.univ fun j => pend c (.s2 j)))
        ∗ (bigSep Finset.univ fun j => pend c (.out 0 j)) ∗ (bigSep Finset.univ fun j => pend c (.out (rel (axOf j).other) j))
        ∗ (bigSep Finset.univ fun j => pend c (.out (rel (axOf j)) j)) ∗ (bigSep Finset.univ fun j => pend c (.out 3 j))) ∗ ow c 0)
      (each chunks (drain c) >>= fun _ => (each chunks fun j => pWait (.out 0 j) (oP c 0 j)) >>= fun _ =>
        (each chunks fun j => pWait (.out (rel (axOf j).other) j) (oP c (rel (axOf j).other) j)) >>= fun _ =>
        (each chunks fun j => pWait (.out (rel (axOf j)) j) (oP c (rel (axOf j)) j)) >>= fun _ =>
        each chunks fun j => pWait (.out 3 j) (oP c 3 j))
      iprop((done m c (fun j => .rsS j) ∗ done m c (fun j => .s1 .y j) ∗ done m c (fun j => .s1 .z j) ∗ done m c (fun j => .s2 j)
        ∗ done m c (fun j => .out 0 j) ∗ done m c (fun j => .out (rel (axOf j).other) j) ∗ done m c (fun j => .out (rel (axOf j)) j)
        ∗ done m c (fun j => .out 3 j)) ∗ ow c 0) := by
  unfold T
  simp only [wpT, wp_bind]
  iintro ⟨#Hc, ⟨Hd, H0, H1, H2, H3⟩, Hw⟩
  iapply ((drains_T m K c).use m K) $$ [Hd Hw]
  · isplitr; · iexact Hc
    isplitl [Hd] <;> iassumption
  iintro ⟨⟨D1, D2, D3, D4⟩, Hw⟩
  iapply ((outs_T m K c (fun _ => 0)).use m K) $$ [H0 Hw]
  · isplitr; · iexact Hc
    isplitl [H0] <;> iassumption
  iintro ⟨D5, Hw⟩
  iapply ((outs_T m K c (fun j => rel (axOf j).other)).use m K) $$ [H1 Hw]
  · isplitr; · iexact Hc
    isplitl [H1] <;> iassumption
  iintro ⟨D6, Hw⟩
  iapply ((outs_T m K c (fun j => rel (axOf j))).use m K) $$ [H2 Hw]
  · isplitr; · iexact Hc
    isplitl [H2] <;> iassumption
  iintro ⟨D7, Hw⟩
  iapply ((outs_T m K c (fun _ => 3)).use m K) $$ [H3 Hw]
  · isplitr; · iexact Hc
    isplitl [H3] <;> iassumption
  iintro ⟨D8, Hw⟩
  isplitr [Hw]
  · isplitl [D1]; · iexact D1
    isplitl [D2]; · iexact D2
    isplitl [D3]; · iexact D3
    isplitl [D4]; · iexact D4
    isplitl [D5]; · iexact D5
    isplitl [D6]; · iexact D6
    isplitl [D7] <;> iassumption
  · iexact Hw

/-- Between: exchange along `x`, compute, share, forward. -/
theorem middle_T :
    T m K c iprop((((bigSep Finset.univ fun j => pend c (.inp j)) ∗ pend c .inR ∗ pend c .inG)
          ∗ ((bigSep Finset.univ fun j => any (F := F) (xDev c) (sS j))
            ∗ (bigSep Finset.univ fun j => any (F := F) (aDev .y c) (vC (quarter c 0) j)) ∗ (bigSep Finset.univ fun j => any (F := F) (aDev .z c) (vC (quarter c 0) j))
            ∗ (bigSep Finset.univ fun j => any (F := F) (aDev (axOf j) c) (vC (quarter c (rel (axOf j).other)) j)))
          ∗ (bigSep Finset.univ fun j => any (F := F) c (vC (quarter c 0) j))
          ∗ (bigSep Finset.univ fun r => bigSep Finset.univ fun j => any (F := F) c (oC (quarter c r) j)))
        ∗ ((bigSep Finset.univ fun j => idle c (.rsS j)) ∗ (bigSep Finset.univ fun j => idle c (.s1 .y j)) ∗ (bigSep Finset.univ fun j => idle c (.s1 .z j))
          ∗ (bigSep Finset.univ fun j => idle c (.s2 j)) ∗ (bigSep Finset.univ fun j => idle c (.out 0 j)) ∗ (bigSep Finset.univ fun j => idle c (.out (rel (axOf j).other) j))
          ∗ (bigSep Finset.univ fun j => idle c (.out (rel (axOf j)) j)) ∗ (bigSep Finset.univ fun j => idle c (.out 3 j)))
        ∗ (((bigSep Finset.univ fun j => tok (xDev c) (.rsR j)) ∗ (bigSep Finset.univ fun j => tok (aDev .y c) (.r1 .y j))
            ∗ (bigSep Finset.univ fun j => tok (aDev .z c) (.r1 .z j)) ∗ (bigSep Finset.univ fun j => tok (aDev (axOf j) c) (.r2 j)))
          ∗ ((bigSep Finset.univ fun j => pend c (.rsR j)) ∗ (bigSep Finset.univ fun j => pend c (.r1 (axOf j).other j))
            ∗ (bigSep Finset.univ fun j => pend c (.r1 (axOf j) j)) ∗ (bigSep Finset.univ fun j => pend c (.r2 j))))
        ∗ ow c ((∑ j, due (xDev c) (.rsR j)) + ((∑ j, (due (aDev .y c) (.r1 .y j) + due (aDev .z c) (.r1 .z j))) + ((∑ j, due (aDev (axOf j) c) (.r2 j)) + 0))))
      (each chunks (exchange c) >>= fun _ => pWait .inR bR >>= fun _ => pWait .inG gS >>= fun _ => each chunks (finish c) >>= fun _ =>
        each chunks (forward c) >>= fun _ => each chunks (second c) >>= fun _ => each chunks (third c))
      iprop(((bigSep Finset.univ fun j => fin c (.inp j)) ∗ fin c .inR ∗ fin c .inG ∗ (bigSep Finset.univ fun j => fin c (.rsR j))
          ∗ (bigSep Finset.univ fun j => fin c (.r1 (axOf j).other j)) ∗ (bigSep Finset.univ fun j => fin c (.r1 (axOf j) j)) ∗ (bigSep Finset.univ fun j => fin c (.r2 j)))
        ∗ ((bigSep Finset.univ fun j => at_ c (pC (quarter c 0) j) fullShare (PX m c (quarter c 0) j)) ∗ at_ c (rC (quarter c 0)) fullShare (RX m c)
          ∗ at_ c mG fullShare (GX m c) ∗ (bigSep Finset.univ fun j => at_ c (xS j) fullShare.right (PX m c (quarter c 0) j))
          ∗ at_ c bR fullShare (RX m c) ∗ at_ c bG fullShare (GX1 m c)
          ∗ (bigSep Finset.univ fun j => at_ c (sS j) fullShare (PX m (xDev c) (quarter c 0) j)))
        ∗ (((bigSep Finset.univ fun j => pend c (.rsS j)) ∗ (bigSep Finset.univ fun j => pend c (.s1 .y j)) ∗ (bigSep Finset.univ fun j => pend c (.s1 .z j))
          ∗ (bigSep Finset.univ fun j => pend c (.s2 j)))
        ∗ (bigSep Finset.univ fun j => pend c (.out 0 j)) ∗ (bigSep Finset.univ fun j => pend c (.out (rel (axOf j).other) j))
        ∗ (bigSep Finset.univ fun j => pend c (.out (rel (axOf j)) j)) ∗ (bigSep Finset.univ fun j => pend c (.out 3 j))) ∗ ow c 0) := by
  unfold T
  simp only [wpT, wp_bind]
  rw [quarters_split (fun r j => any (F := F) c (oC (quarter c r) j))]
  iintro ⟨#Hc, ⟨⟨Pp, PR, PG⟩, ⟨B0, B1, B2, B3⟩, HV, Q0, Q1, Q2, Q3⟩, ⟨IrsS, Iy, Iz, I2, O0, O1, O2, O3⟩, ⟨⟨Tx, Ty, Tz, T2⟩, Px, P1, P2, P3⟩, Hw⟩
  iapply ((exchanges_T m K c _ ((O_r1 c).mono (by decide))).use m K) $$ [Pp IrsS Tx B0 Hw]
  · isplitr; · iexact Hc
    isplitr [Hw]
    · isplitl [Pp]; · iexact Pp
      isplitl [IrsS]; · iexact IrsS
      isplitl [Tx] <;> iassumption
    iexact Hw
  iintro ⟨⟨Fp, HP, HX, PrsS⟩, Hw⟩
  iapply (step_wait m K c .inR bR rfl _ ((O_r1 c).mono (by decide))) $$ [PR Hw]
  · isplitr; · iexact Hc
    isplitl [PR] <;> iassumption
  iintro ⟨FR, HR, Hw⟩
  ihave HR := (Entails.of_eq (pay_inR m c)) $$ HR
  icases HR with ⟨HR, HbR⟩
  iapply (step_wait m K c .inG gS rfl _ ((O_r1 c).mono (by decide))) $$ [PG Hw]
  · isplitr; · iexact Hc
    isplitl [PG] <;> iassumption
  iintro ⟨FG, HG, Hw⟩
  ihave HG := (Entails.of_eq (pay_inG m c)) $$ HG
  icases HG with ⟨HG, HbG⟩
  ihave HbG := (gS_bG m c) $$ HbG
  iapply ((finishes_T m K c _ ((O_r2 c).mono (by decide))).use m K) $$ [Px HX HV Iy Iz Ty Tz B1 B2 O0 Q0 HbR HbG Hw]
  · isplitr; · iexact Hc
    isplitr [HbR HbG Hw]
    · isplitl [Px]; · iexact Px
      isplitl [HX]; · iexact HX
      isplitl [HV]; · iexact HV
      isplitl [Iy]; · iexact Iy
      isplitl [Iz]; · iexact Iz
      isplitl [Ty]; · iexact Ty
      isplitl [Tz]; · iexact Tz
      isplitl [B1]; · iexact B1
      isplitl [B2]; · iexact B2
      isplitl [O0] <;> iassumption
    unfold finInv
    isplitl [HbR]; · iexact HbR
    isplitl [HbG] <;> iassumption
  unfold finInv
  iintro ⟨⟨FrsR, HS, HX, Py, Pz, PO0⟩, HbR, HbG, Hw⟩
  iapply ((forwards_T m K c 0 (Above.zero _)).use m K) $$ [P1 O1 Q1 I2 T2 B3 Hw]
  · isplitr; · iexact Hc
    isplitr [Hw]
    · isplitl [P1]; · iexact P1
      isplitl [O1]; · iexact O1
      isplitl [Q1]; · iexact Q1
      isplitl [I2]; · iexact I2
      isplitl [T2] <;> iassumption
    iexact Hw
  iintro ⟨⟨F1, PO1, Ps2⟩, Hw⟩
  iapply ((seconds_T m K c).use m K) $$ [P2 O2 Q2 Hw]
  · isplitr; · iexact Hc
    isplitr [Hw]
    · isplitl [P2]; · iexact P2
      isplitl [O2] <;> iassumption
    iexact Hw
  iintro ⟨⟨F2, PO2⟩, Hw⟩
  iapply ((thirds_T m K c).use m K) $$ [P3 O3 Q3 Hw]
  · isplitr; · iexact Hc
    isplitr [Hw]
    · isplitl [P3]; · iexact P3
      isplitl [O3] <;> iassumption
    iexact Hw
  iintro ⟨⟨F3, PO3⟩, Hw⟩
  isplitl [Fp FR FG FrsR F1 F2 F3]
  · isplitl [Fp]; · iexact Fp
    isplitl [FR]; · iexact FR
    isplitl [FG]; · iexact FG
    isplitl [FrsR]; · iexact FrsR
    isplitl [F1]; · iexact F1
    isplitl [F2] <;> iassumption
  isplitl [HP HR HG HX HbR HbG HS]
  · isplitl [HP]; · iexact HP
    isplitl [HR]; · iexact HR
    isplitl [HG]; · iexact HG
    isplitl [HX]; · iexact HX
    isplitl [HbR]; · iexact HbR
    isplitl [HbG] <;> iassumption
  isplitr [Hw]
  · isplitl [PrsS Py Pz Ps2]
    · isplitl [PrsS]; · iexact PrsS
      isplitl [Py]; · iexact Py
      isplitl [Pz] <;> iassumption
    isplitl [PO0]; · iexact PO0
    isplitl [PO1]; · iexact PO1
    isplitl [PO2] <;> iassumption
  iexact Hw

/-- The body in three parts. -/
theorem bodyOn_parts : bodyOn (F := F) c =
      ((each chunks (stage c) >>= fun _ => pCopy (rS (k0_off2 c) (k0_off2_inb c)) bR .inR ⟨Or.inl rfl, trivial⟩ >>= fun _ =>
        pCopy mG gS .inG ⟨Or.inl rfl, trivial⟩ >>= fun _ => barrier c) >>= fun _ =>
      (each chunks (exchange c) >>= fun _ => pWait .inR bR >>= fun _ => pWait .inG gS >>= fun _ => each chunks (finish c) >>= fun _ =>
        each chunks (forward c) >>= fun _ => each chunks (second c) >>= fun _ => each chunks (third c)) >>= fun _ =>
      (each chunks (drain c) >>= fun _ => (each chunks fun j => pWait (.out 0 j) (oP c 0 j)) >>= fun _ =>
        (each chunks fun j => pWait (.out (rel (axOf j).other) j) (oP c (rel (axOf j).other) j)) >>= fun _ =>
        (each chunks fun j => pWait (.out (rel (axOf j)) j) (oP c (rel (axOf j)) j)) >>= fun _ =>
        each chunks fun j => pWait (.out 3 j) (oP c 3 j))) := by
  unfold bodyOn; simp only [bind_assoc]

/-- The run of a device, from its semaphores' rights and its pieces to the finished result. -/
theorem body_T :
    T m K c iprop((bigSep Finset.univ fun x => cellPre (F := F) c x) ∗ barPre (F := F) c ∗ bufPre m c ∗ ow c (O₀ c)) (bodyOn c)
      iprop((bigSep Finset.univ fun x => fin (F := F) c x) ∗ semVal (bcell c) 0 ∗ bufPost m c ∗ ow c 0) := by
  rw [bodyOn_parts]
  have h1 := open_T m K c _ (O_rs c)
  have h2 := middle_T m K c
  have h3 := close_T m K c
  unfold T
  simp only [wpT]
  rw [wp_bind, cells_split (fun x => cellPre (F := F) c x), cells_split (fun x => fin (F := F) c x)]
  simp only [cellPre, bigSep_sep']
  iintro ⟨#Hc, ⟨⟨Ip, IrsS, ⟨Tx, Px⟩, Iy, Iz, ⟨T1, P1⟩, ⟨T2, P2⟩, I2, ⟨T3, P3⟩, J0, J1, J2, J3⟩, IR, IG⟩, Hbar, Hbuf, Hw⟩
  iapply (h1.use m K) $$ [Ip IR IG Hbar Hbuf Hw]
  · isplitr; · iexact Hc
    isplitl [Ip IR IG]
    · isplitl [Ip]; · iexact Ip
      isplitl [IR] <;> iassumption
    isplitl [Hbar]; · iexact Hbar
    isplitl [Hbuf]; · iexact Hbuf
    iexact Hw
  iintro ⟨Pp, Hz, HB, HV, HQ, Hw⟩
  rw [wp_bind]
  ihave HT := (axes_split (fun a j => tok (F := F) (aDev a c) (.r1 a j))) $$ [T1 T2]
  · isplitl [T1] <;> iassumption
  icases HT with ⟨Ty, Tz⟩
  iapply (h2.use m K) $$ [Pp HB HV HQ IrsS Iy Iz I2 J0 J1 J2 J3 Tx Ty Tz T3 Px P1 P2 P3 Hw]
  · isplitr; · iexact Hc
    isplitl [Pp HB HV HQ]
    · isplitl [Pp]; · iexact Pp
      isplitl [HB]; · iexact HB
      isplitl [HV] <;> iassumption
    isplitl [IrsS Iy Iz I2 J0 J1 J2 J3]
    · isplitl [IrsS]; · iexact IrsS
      isplitl [Iy]; · iexact Iy
      isplitl [Iz]; · iexact Iz
      isplitl [I2]; · iexact I2
      isplitl [J0]; · iexact J0
      isplitl [J1]; · iexact J1
      isplitl [J2] <;> iassumption
    isplitr [Hw]
    · isplitl [Tx Ty Tz T3]
      · isplitl [Tx]; · iexact Tx
        isplitl [Ty]; · iexact Ty
        isplitl [Tz] <;> iassumption
      isplitl [Px]; · iexact Px
      isplitl [P1]; · iexact P1
      isplitl [P2] <;> iassumption
    iexact Hw
  iintro ⟨⟨Fp, FR, FG, Fx, F1, F2, F3⟩, ⟨HP, HR, HG, HX, HbR, HbG, HS⟩, Hpend, Hw⟩
  iapply (h3.use m K) $$ [Hpend Hw]
  · isplitr; · iexact Hc
    isplitl [Hpend] <;> iassumption
  iintro ⟨⟨⟨D1, E1⟩, ⟨D2, E2⟩, ⟨D3, E3⟩, ⟨D4, E4⟩, ⟨D5, E5⟩, ⟨D6, E6⟩, ⟨D7, E7⟩, D8, E8⟩, Hw⟩
  ihave HX := (xS_end m c) $$ [HX E1]
  · isplitl [HX] <;> iassumption
  ihave Ho := (outs_end m c) $$ [E2 E3 E4 E5 E6 E7 E8]
  · isplitl [E2]; · iexact E2
    isplitl [E3]; · iexact E3
    isplitl [E4]; · iexact E4
    isplitl [E5]; · iexact E5
    isplitl [E6]; · iexact E6
    isplitl [E7] <;> iassumption
  icases Ho with ⟨HV, HO⟩
  have hS : (bigSep Finset.univ fun j => at_ c (sS j) fullShare (PX m (xDev c) (quarter c 0) j)) ⊢ (bigSep Finset.univ fun j => any (F := F) c (sS j)) :=
    bigSep_mono fun j _ => any_intro c _ _
  ihave HS := hS $$ HS
  ihave HbR := (any_intro c bR (RX m c)) $$ HbR
  ihave HbG := (any_intro c bG (GX1 m c)) $$ HbG
  isplitl [Fp FR FG Fx F1 F2 F3 D1 D2 D3 D4 D5 D6 D7 D8]
  · isplitr [FR FG]
    · isplitl [Fp]; · iexact Fp
      isplitl [D1]; · iexact D1
      isplitl [Fx]; · iexact Fx
      isplitl [D2]; · iexact D2
      isplitl [D3]; · iexact D3
      isplitl [F1]; · iexact F1
      isplitl [F2]; · iexact F2
      isplitl [D4]; · iexact D4
      isplitl [F3]; · iexact F3
      isplitl [D5]; · iexact D5
      isplitl [D6]; · iexact D6
      isplitl [D7] <;> iassumption
    isplitl [FR] <;> iassumption
  isplitl [Hz]; · iexact Hz
  isplitr [Hw]
  · unfold bufPost
    isplitl [HP]; · iexact HP
    isplitl [HR]; · iexact HR
    isplitl [HG]; · iexact HG
    isplitl [HX]; · iexact HX
    isplitl [HbR]; · iexact HbR
    isplitl [HbG]; · iexact HbG
    isplitl [HS]; · iexact HS
    isplitl [HV] <;> iassumption
  iexact Hw

end Cert.ArLn

end
-- ==== Proof.Pieces.lean ====
module

public import proofs.«01_k».proof.Proof.Body

@[expose] public section

/-! # Buffers as their pieces

A device starts and ends with whole buffers, its run works on quarters and chunks.  Here each whole
buffer is the separate ownership of its pieces, and the finished chunks of the result together are
the whole result. -/

noncomputable section

namespace Cert.ArLn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rectangles that tile -/

/-- The rectangles are disjoint and cover the shape. -/
structure Tiles {sh : Shape} {T : Type} [Fintype T] (r : T → Rect sh) : Prop where
  stride : ∀ t a, (r t).stride a = 1
  disj : ∀ t t', t ≠ t' → Disjoint (r t).set (r t').set
  cover : (Finset.univ : Finset T).biUnion (fun t => (r t).set) = Finset.univ

section Tiles
variable {sh : Shape} {T : Type} [Fintype T] {r : T → Rect sh}

/-- To tile, give each place its rectangle. -/
theorem Tiles.of_choice (hs : ∀ t a, (r t).stride a = 1) (at' : sh.Idx → T) (h : ∀ i t, i ∈ (r t).set ↔ t = at' i) : Tiles r :=
  ⟨hs, fun t t' hne => Finset.disjoint_left.mpr fun i hi hi' => hne (((h i t).mp hi).trans ((h i t').mp hi').symm),
    Finset.eq_univ_of_forall fun i => Finset.mem_biUnion.mpr ⟨at' i, Finset.mem_univ _, (h i _).mpr rfl⟩⟩

/-- Contents given piece by piece are contents of the whole. -/
theorem Tiles.glue (h : Tiles r) {α : Type} [Nonempty α] (Xs : (t : T) → (r t).shape.Idx → α) :
    ∃ X : sh.Idx → α, ∀ t, (fun j => X ((r t).emb j)) = Xs t := by
  classical
  have hex : ∀ i : sh.Idx, ∃ t, ∃ j, (r t).emb j = i := fun i => by
    obtain ⟨t, -, ht⟩ := Finset.mem_biUnion.mp (h.cover.symm ▸ Finset.mem_univ i)
    rw [← Rect.map_emb_univ, Finset.mem_map] at ht
    obtain ⟨j, -, hj⟩ := ht
    exact ⟨t, j, hj⟩
  choose tt jj hj using hex
  refine ⟨fun i => Xs (tt i) (jj i), fun t => funext fun j => ?_⟩
  have mem (t : T) (j : (r t).shape.Idx) : (r t).emb j ∈ (r t).set := by
    rw [← Rect.map_emb_univ]; exact Finset.mem_map_of_mem _ (Finset.mem_univ j)
  have key : ∀ (t' : T) (j' : (r t').shape.Idx), (r t').emb j' = (r t).emb j → Xs t' j' = Xs t j := fun t' j' e => by
    have et : t' = t := by
      by_contra hne
      exact Finset.disjoint_left.mp (h.disj t' t hne) (mem t' j') (e ▸ mem t j)
    subst et
    rw [(r t').emb.injective e]
  exact key _ _ (hj _)

variable {sp : Space} (c : Dev nD) (M : Memref sig .tc sp sh .f32)

/-- A buffer that holds something is its pieces, each holding something. -/
theorem any_split (h : Tiles r) : any (F := F) c M ⊢ bigSep Finset.univ fun t => any (F := F) c (M.slice (r t) (h.stride t)) := by
  unfold any at_
  iintro ⟨%X, H⟩
  ihave H := (owns_rects (c : Thread nD τ) M fullShare r h.stride h.disj h.cover X) $$ H
  have e : (bigSep Finset.univ fun t => (owns (c : Thread nD τ) (M.slice (r t) (h.stride t)) fullShare (fun j => X ((r t).emb j)) : sProp 𝕄))
      ⊢ bigSep Finset.univ fun t => iprop(∃ X, owns (c : Thread nD τ) (M.slice (r t) (h.stride t)) fullShare X) := bigSep_mono fun t _ => by
    show (_ : sProp 𝕄) ⊢ _
    iintro H; iexists _; iexact H
  iapply e; iexact H

/-- Pieces that hold the parts of `X` are a buffer that holds `X`. -/
theorem at_join (h : Tiles r) (X : Vec F sh .f32) :
    (bigSep Finset.univ fun t => at_ c (M.slice (r t) (h.stride t)) fullShare (fun j => X ((r t).emb j))) ⊢ at_ c M fullShare X :=
  by classical exact owns_of_rects (c : Thread nD τ) M fullShare r h.stride h.disj h.cover X

/-- Pieces that hold something are a buffer that holds something. -/
theorem any_join (h : Tiles r) : (bigSep Finset.univ fun t => any (F := F) c (M.slice (r t) (h.stride t))) ⊢ any (F := F) c M := by
  classical
  haveI : Nonempty (Elt F .f32) := Elt.nonempty F .f32
  haveI : ∀ t, Nonempty (Vec F (r t).shape .f32) := fun t => ⟨fun _ => Classical.arbitrary _⟩
  unfold any
  refine BIBase.Entails.trans (BI.bigSep_exists_pi Finset.univ _) ?_
  iintro ⟨%Xs, H⟩
  obtain ⟨X, hX⟩ := h.glue Xs
  iexists X
  iapply (at_join c M h X)
  have e : (fun t => at_ (F := F) c (M.slice (r t) (h.stride t)) fullShare (fun j => X ((r t).emb j))) = fun t => at_ c (M.slice (r t) (h.stride t)) fullShare (Xs t) :=
    funext fun t => by rw [hX t]
  rw [e]; iexact H

end Tiles

/-- Dropping an axis of extent one renames the places of a piece. -/
theorem at_squeeze {sp : Space} {s s' : Shape} (c : Dev nD) (M : Memref sig .tc sp s .f32) (h : s.Squeezes s') (q : PosShare TreeShare) (X : Vec F s .f32) :
    at_ (F := F) c M q X = at_ c (M.squeeze s' h) q (fun i => X (Shape.reshapeEquiv h.numel_eq i)) := by
  have e : (M.squeeze s' h).view.set = M.view.set := View.set_reshape (v := M.view) h.numel_eq
  refine BI.equiv_iff.mp ⟨?_, ?_⟩
  · show iprop(∃ f, ⌜M.view.read (Elt F) f = X⌝ ∗ M.view.loc (c : Thread nD τ) ↦[M.view.set]{q} f)
      ⊢ iprop(∃ f, ⌜(M.squeeze s' h).view.read (Elt F) f = _⌝ ∗ (M.squeeze s' h).view.loc (c : Thread nD τ) ↦[(M.squeeze s' h).view.set]{q} f)
    iintro ⟨%f, %hf, H⟩
    iexists f
    isplitr
    · ipureintro; subst hf; rfl
    · rw [e]; iexact H
  · show iprop(∃ f, ⌜(M.squeeze s' h).view.read (Elt F) f = _⌝ ∗ (M.squeeze s' h).view.loc (c : Thread nD τ) ↦[(M.squeeze s' h).view.set]{q} f)
      ⊢ iprop(∃ f, ⌜M.view.read (Elt F) f = X⌝ ∗ M.view.loc (c : Thread nD τ) ↦[M.view.set]{q} f)
    iintro ⟨%f, %hf, H⟩
    iexists f
    isplitr
    · ipureintro
      funext i
      obtain ⟨j, rfl⟩ := (Shape.reshapeEquiv h.numel_eq).surjective i
      exact congrFun hf j
    · rw [e]; iexact H

/-! ## The four tilings -/

/-- Eight chunks tile a quarter. -/
theorem tiles128 : Tiles fun j : Fin 8 => rect128 ![16 * j.val, 0] (inb128 j) :=
  Tiles.of_choice (fun _ _ => rfl) (fun i => ⟨(i 0).val / 16, by have := (i 0).isLt; change (i 0).val < 128 at this; omega⟩) fun i j => by
    have h0 : (i 0).val < 128 := (i 0).isLt
    have h1 : (i 1).val < 512 := (i 1).isLt
    rw [Rect.mem_set_unit, Fin.forall_fin_two, Fin.ext_iff]
    show (16 * j.val ≤ (i 0).val ∧ (i 0).val < 16 * j.val + 16) ∧ (0 ≤ (i 1).val ∧ (i 1).val < 0 + 512) ↔ j.val = (i 0).val / 16
    omega

/-- The chunk of a row. -/
abbrev chunkOf (n : ℕ) (h : n < 512) : Fin 4 × Fin 8 := (⟨n / 128, by omega⟩, ⟨n % 128 / 16, by omega⟩)

/-- Four times eight chunks tile the 512 rows. -/
theorem tiles512 : Tiles fun p : Fin 4 × Fin 8 => rect512 ![128 * p.1.val + 16 * p.2.val, 0] (inb512 p.1 p.2) :=
  Tiles.of_choice (fun _ _ => rfl) (fun i => chunkOf (i 0).val (i 0).isLt) fun i p => by
    have h0 : (i 0).val < 512 := (i 0).isLt
    have h1 : (i 1).val < 512 := (i 1).isLt
    rw [Rect.mem_set_unit, Fin.forall_fin_two, Prod.ext_iff, Fin.ext_iff, Fin.ext_iff]
    show (128 * p.1.val + 16 * p.2.val ≤ (i 0).val ∧ (i 0).val < 128 * p.1.val + 16 * p.2.val + 16) ∧ (0 ≤ (i 1).val ∧ (i 1).val < 0 + 512)
      ↔ p.1.val = (i 0).val / 128 ∧ p.2.val = (i 0).val % 128 / 16
    omega

/-- And those of the stacked partial sum. -/
theorem tilesP : Tiles fun p : Fin 4 × Fin 8 => Rect.unit (s := S1x512x512) ![0, 128 * p.1.val + 16 * p.2.val, 0] S1x16x512.size (inbP p.1 p.2) :=
  Tiles.of_choice (fun _ _ => rfl) (fun i => chunkOf (i 1).val (i 1).isLt) fun i p => by
    have h0 : (i 0).val < 1 := (i 0).isLt
    have h1 : (i 1).val < 512 := (i 1).isLt
    have h2 : (i 2).val < 512 := (i 2).isLt
    rw [Rect.mem_set_unit, Prod.ext_iff, Fin.ext_iff, Fin.ext_iff]
    constructor
    · intro h
      have := h 1
      change 128 * p.1.val + 16 * p.2.val ≤ (i 1).val ∧ (i 1).val < 128 * p.1.val + 16 * p.2.val + 16 at this
      show p.1.val = (i 1).val / 128 ∧ p.2.val = (i 1).val % 128 / 16
      omega
    · intro h a
      change p.1.val = (i 1).val / 128 ∧ p.2.val = (i 1).val % 128 / 16 at h
      match a with
      | ⟨0, _⟩ => show 0 ≤ (i 0).val ∧ (i 0).val < 0 + 1; omega
      | ⟨1, _⟩ => show 128 * p.1.val + 16 * p.2.val ≤ (i 1).val ∧ (i 1).val < 128 * p.1.val + 16 * p.2.val + 16; omega
      | ⟨2, _⟩ => show 0 ≤ (i 2).val ∧ (i 2).val < 0 + 512; omega

/-- Four quarters tile the residual. -/
theorem tilesR : Tiles fun k : Fin 4 => Rect.unit (s := S512x512) ![128 * k.val, 0] S128x512.size (inbR k) :=
  Tiles.of_choice (fun _ _ => rfl) (fun i => ⟨(i 0).val / 128, by have := (i 0).isLt; change (i 0).val < 512 at this; omega⟩) fun i k => by
    have h0 : (i 0).val < 512 := (i 0).isLt
    have h1 : (i 1).val < 512 := (i 1).isLt
    rw [Rect.mem_set_unit, Fin.forall_fin_two, Fin.ext_iff]
    show (128 * k.val ≤ (i 0).val ∧ (i 0).val < 128 * k.val + 128) ∧ (0 ≤ (i 1).val ∧ (i 1).val < 0 + 512) ↔ k.val = (i 0).val / 128
    omega

/-! ## The quarters in a device's own order -/

/-- A device's own order of the quarters. -/
def quarterEquiv (c : Dev nD) : Fin 4 ≃ Fin 4 :=
  ⟨quarter c, quarter c, by revert c; decide +kernel, by revert c; decide +kernel⟩

/-- Everything about the quarters may be listed in a device's own order. -/
theorem by_quarter (c : Dev nD) (Φ : Fin 4 → sProp 𝕄) : bigSep Finset.univ Φ = bigSep Finset.univ fun r => Φ (quarter c r) :=
  bigSep_univ_equiv (quarterEquiv c) Φ

/-- The own quarter, then the other three. -/
theorem own_first (c : Dev nD) (Φ : Fin 4 → sProp 𝕄) :
    bigSep Finset.univ Φ = iprop(Φ (quarter c 0) ∗ (Φ (quarter c 1) ∗ Φ (quarter c 2) ∗ Φ (quarter c 3))) := by
  rw [by_quarter c, bigSep_univ_eq_bigSepL (I := Fin 4) [0, 1, 2, 3] (by decide) (by decide)]; rfl

/-! ## Each buffer and its pieces -/

variable (m : (ℓ : Loc nD τ sig) → Buf (Elt F) ℓ) (c : Dev nD)

/-- The partial sum, whole, is its chunks. -/
theorem P_pieces : (((c : Thread nD τ).loc main_arg0) ↦{fullShare} m ((c : Thread nD τ).loc main_arg0) : sProp 𝕄)
    = bigSep Finset.univ fun k => bigSep Finset.univ fun j => at_ c (pC k j) fullShare (PX m c k j) := by
  have h := pointsTo_rects (Ix := Unit) (Name := ℕ) (U := UU) (Lvl := ℕ) (c : Thread nD τ) mP fullShare _ tilesP.stride tilesP.disj tilesP.cover (m ((c : Thread nD τ).loc main_arg0))
  rw [View.set_whole, bigSep_univ_prod] at h
  refine h.trans (bigSep_congr fun k _ => bigSep_congr fun j _ => ?_)
  exact at_squeeze c _ squeezes_S1x16x512_S16x512 fullShare _

/-- Quarter `k` of the residual. -/
def RK (k : Fin 4) : Vec F S128x512 .f32 := (rC k).view.read (Elt F) (m ((rC k).view.loc (c : Thread nD τ)))

/-- The residual, whole, is its quarters. -/
theorem R_pieces : (((c : Thread nD τ).loc main_arg1) ↦{fullShare} m ((c : Thread nD τ).loc main_arg1) : sProp 𝕄)
    = bigSep Finset.univ fun k => at_ c (rC k) fullShare (RK m c k) := by
  have h := pointsTo_rects (Ix := Unit) (Name := ℕ) (U := UU) (Lvl := ℕ) (c : Thread nD τ) mR fullShare _ tilesR.stride tilesR.disj tilesR.cover (m ((c : Thread nD τ).loc main_arg1))
  rw [View.set_whole] at h
  exact h

/-- The weight row. -/
theorem G_piece : (((c : Thread nD τ).loc main_arg2) ↦{fullShare} m ((c : Thread nD τ).loc main_arg2) : sProp 𝕄) ⊢ at_ c mG fullShare (GX m c) :=
  owns_intro (c : Thread nD τ) mG fullShare (m ((c : Thread nD τ).loc main_arg2)) |> fun h => by
    rw [View.set_whole] at h; exact h
/-- The weights' piece is the whole of the weights again. -/
theorem G_whole : at_ c mG fullShare (GX m c) ⊢ (((c : Thread nD τ).loc main_arg2) ↦{fullShare} m ((c : Thread nD τ).loc main_arg2) : sProp 𝕄) := by
  show iprop(∃ f, ⌜mG.view.read (Elt F) f = GX m c⌝ ∗ mG.view.loc (c : Thread nD τ) ↦[mG.view.set]{fullShare} f) ⊢ _
  iintro ⟨%f, %hf, H⟩
  have e : f = m ((c : Thread nD τ).loc main_arg2) := hf
  subst e
  rw [View.set_whole]; iexact H

/-- A whole buffer at some contents. -/
theorem any_whole {sp : Space} {sh : Shape} (b : Memref sig .tc sp sh .f32) (hb : b.view.set = Finset.univ) (f : Buf (Elt F) (b.view.loc (c : Thread nD τ))) :
    (b.view.loc (c : Thread nD τ) ↦{fullShare} f : sProp 𝕄) ⊢ any (F := F) c b := by
  have h := owns_intro (Ix := Unit) (Name := ℕ) (U := UU) (Lvl := ℕ) (c : Thread nD τ) b fullShare f
  rw [hb] at h
  exact BIBase.Entails.trans h (any_intro c b _)
/-- A buffer as a piece is the buffer with some contents. -/
theorem any_unwhole {sp : Space} {sh : Shape} (b : Memref sig .tc sp sh .f32) (hb : b.view.set = Finset.univ) :
    any (F := F) c b ⊢ iprop(∃ f : Buf (Elt F) (b.view.loc (c : Thread nD τ)), b.view.loc (c : Thread nD τ) ↦{fullShare} f) := by
  unfold any at_ owns
  rw [hb]
  iintro ⟨%X, %f, -, H⟩
  iexists f; iexact H

/-- A 128-row buffer is its eight chunks; a 512-row one its quarters' chunks, in a device's own order. -/
theorem X_pieces : any (F := F) c bX ⊢ bigSep Finset.univ fun j => any (F := F) c (xS j) := any_split c bX tiles128
/-- The staging buffer from its chunks. -/
theorem X_whole : (bigSep Finset.univ fun j => any (F := F) c (xS j)) ⊢ any (F := F) c bX := any_join c bX tiles128
/-- The buffer for the rows from across `x`, in chunks. -/
theorem S_pieces : any (F := F) c bS ⊢ bigSep Finset.univ fun j => any (F := F) c (sS j) := any_split c bS tiles128
/-- And from its chunks. -/
theorem S_whole : (bigSep Finset.univ fun j => any (F := F) c (sS j)) ⊢ any (F := F) c bS := any_join c bS tiles128
/-- The finished rows' buffer, in chunks by a device's own order of the quarters. -/
theorem V_pieces : any (F := F) c bV ⊢ bigSep Finset.univ fun r => bigSep Finset.univ fun j => any (F := F) c (vC (quarter c r) j) := by
  rw [← by_quarter c (fun k => bigSep Finset.univ fun j => any (F := F) c (vC k j)), ← bigSep_univ_prod (fun p : Fin 4 × Fin 8 => any (F := F) c (vC p.1 p.2))]
  exact any_split c bV tiles512
/-- And from its chunks. -/
theorem V_whole : (bigSep Finset.univ fun r => bigSep Finset.univ fun j => any (F := F) c (vC (quarter c r) j)) ⊢ any (F := F) c bV := by
  rw [← by_quarter c (fun k => bigSep Finset.univ fun j => any (F := F) c (vC k j)), ← bigSep_univ_prod (fun p : Fin 4 × Fin 8 => any (F := F) c (vC p.1 p.2))]
  exact any_join c bV tiles512
/-- The result's buffer, in chunks by the same order. -/
theorem O_pieces : any (F := F) c mO ⊢ bigSep Finset.univ fun r => bigSep Finset.univ fun j => any (F := F) c (oC (quarter c r) j) := by
  rw [← by_quarter c (fun k => bigSep Finset.univ fun j => any (F := F) c (oC k j)), ← bigSep_univ_prod (fun p : Fin 4 × Fin 8 => any (F := F) c (oC p.1 p.2))]
  exact any_split c mO tiles512

/-! ## The whole result -/

/-- The result on device `c`: row `n` lies in chunk `n % 128 / 16` of quarter `n / 128`. -/
def RES : Vec F S512x512 .f32 := fun i =>
  OUT m c (chunkOf (i 0).val (i 0).isLt).1 (chunkOf (i 0).val (i 0).isLt).2 fun a => match a with
    | ⟨0, _⟩ => ⟨(i 0).val % 16, Nat.mod_lt _ (by decide)⟩
    | ⟨1, _⟩ => ⟨(i 1).val, (i 1).isLt⟩

/-- A chunk of the result is the finished chunk that was written there. -/
theorem RES_piece (k : Fin 4) (j : Fin 8) :
    (fun x => RES m c ((rect512 ![128 * k.val + 16 * j.val, 0] (inb512 k j)).emb x)) = OUT m c k j := by
  funext x
  have hx : (x 0).val < 16 := (x 0).isLt
  have e0 : ((rect512 ![128 * k.val + 16 * j.val, 0] (inb512 k j)).emb x 0).val = 128 * k.val + 16 * j.val + (x 0).val := by
    show 128 * k.val + 16 * j.val + 1 * (x 0).val = _; omega
  have e1 : ((rect512 ![128 * k.val + 16 * j.val, 0] (inb512 k j)).emb x 1).val = (x 1).val := by
    show 0 + 1 * (x 1).val = _; omega
  unfold RES
  have hk : (chunkOf ((rect512 ![128 * k.val + 16 * j.val, 0] (inb512 k j)).emb x 0).val (Fin.isLt _)).1 = k := by
    apply Fin.ext; show ((rect512 ![128 * k.val + 16 * j.val, 0] (inb512 k j)).emb x 0).val / 128 = k.val
    rw [e0]; omega
  have hj : (chunkOf ((rect512 ![128 * k.val + 16 * j.val, 0] (inb512 k j)).emb x 0).val (Fin.isLt _)).2 = j := by
    apply Fin.ext; show ((rect512 ![128 * k.val + 16 * j.val, 0] (inb512 k j)).emb x 0).val % 128 / 16 = j.val
    rw [e0]; omega
  rw [hk, hj]
  congr 1
  funext a
  apply Fin.ext
  match a with
  | ⟨0, _⟩ =>
    show ((rect512 ![128 * k.val + 16 * j.val, 0] (inb512 k j)).emb x 0).val % 16 = (x 0).val
    rw [e0]; omega
  | ⟨1, _⟩ => exact e1

/-- The result from its finished chunks. -/
theorem O_whole : (bigSep Finset.univ fun r => bigSep Finset.univ fun j => at_ c (oC (quarter c r) j) fullShare (OUT m c (quarter c r) j))
    ⊢ (((c : Thread nD τ).loc main_v1) ↦{fullShare} (RES m c : Buf (Elt F) ((c : Thread nD τ).loc main_v1)) : sProp 𝕄) := by
  rw [← by_quarter c (fun k => bigSep Finset.univ fun j => at_ c (oC k j) fullShare (OUT m c k j)),
    ← bigSep_univ_prod (fun p : Fin 4 × Fin 8 => at_ c (oC p.1 p.2) fullShare (OUT m c p.1 p.2))]
  have h := at_join c mO tiles512 (RES m c)
  have e : (fun p : Fin 4 × Fin 8 => at_ c (oC p.1 p.2) fullShare (OUT m c p.1 p.2))
      = fun p => at_ c (mO.slice (rect512 ![128 * p.1.val + 16 * p.2.val, 0] (inb512 p.1 p.2)) (tiles512.stride p)) fullShare
          (fun x => RES m c ((rect512 ![128 * p.1.val + 16 * p.2.val, 0] (inb512 p.1 p.2)).emb x)) :=
    funext fun p => by rw [RES_piece]; rfl
  rw [e]
  refine BIBase.Entails.trans h ?_
  show iprop(∃ f, ⌜mO.view.read (Elt F) f = RES m c⌝ ∗ mO.view.loc (c : Thread nD τ) ↦[mO.view.set]{fullShare} f) ⊢ _
  iintro ⟨%f, %hf, H⟩
  have e : f = RES m c := hf
  subst e
  rw [View.set_whole]; iexact H

/-! ## All of a device's buffers -/

/-- The quarters of the inputs that a device does not read. -/
def keep : sProp 𝕄 :=
  iprop(((bigSep Finset.univ fun j => at_ c (pC (quarter c 1) j) fullShare (PX m c (quarter c 1) j))
      ∗ (bigSep Finset.univ fun j => at_ c (pC (quarter c 2) j) fullShare (PX m c (quarter c 2) j))
      ∗ (bigSep Finset.univ fun j => at_ c (pC (quarter c 3) j) fullShare (PX m c (quarter c 3) j)))
    ∗ (at_ c (rC (quarter c 1)) fullShare (RK m c (quarter c 1)) ∗ at_ c (rC (quarter c 2)) fullShare (RK m c (quarter c 2))
      ∗ at_ c (rC (quarter c 3)) fullShare (RK m c (quarter c 3))))

/-- The arguments, as they were. -/
def argPts : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2)))
/-- The buffers in fast memory, at any contents. -/
def scratch : sProp 𝕄 :=
  iprop(any (F := F) c bX ∗ any (F := F) c bR ∗ any (F := F) c bG ∗ any (F := F) c bV ∗ any (F := F) c bS)

/-- The call's scratch buffers as this protocol names them. -/
theorem scratch_in : (Pipeline.scopedRest (Ix := Unit) (Name := ℕ) (U := UU) (Lvl := ℕ) (Val := Elt F) cfg0.spec c : sProp 𝕄) ⊢ scratch (F := F) c := by
  rw [scopedRest0_eq]
  unfold scratch
  iintro ⟨⟨%f0, H0⟩, ⟨%f1, H1⟩, ⟨%f2, H2⟩, ⟨%f3, H3⟩, ⟨%f4, H4⟩⟩
  isplitl [H0]; · iapply (any_whole c bX (View.set_whole _) f0); iexact H0
  isplitl [H1]; · iapply (any_whole c bR (View.set_whole _) f1); iexact H1
  isplitl [H2]; · iapply (any_whole c bG (View.set_whole _) f2); iexact H2
  isplitl [H3]; · iapply (any_whole c bV (View.set_whole _) f3); iexact H3
  iapply (any_whole c bS (View.set_whole _) f4); iexact H4

/-- And given back. -/
theorem scratch_out : scratch (F := F) c ⊢ (Pipeline.scopedRest (Ix := Unit) (Name := ℕ) (U := UU) (Lvl := ℕ) (Val := Elt F) cfg0.spec c : sProp 𝕄) := by
  rw [scopedRest0_eq]
  unfold scratch
  iintro ⟨H0, H1, H2, H3, H4⟩
  isplitl [H0]; · iapply (any_unwhole c bX (View.set_whole _)); iexact H0
  isplitl [H1]; · iapply (any_unwhole c bR (View.set_whole _)); iexact H1
  isplitl [H2]; · iapply (any_unwhole c bG (View.set_whole _)); iexact H2
  isplitl [H3]; · iapply (any_unwhole c bV (View.set_whole _)); iexact H3
  iapply (any_unwhole c bS (View.set_whole _)); iexact H4

/-- The weight row's staging buffer, as a vector. -/
theorem bG_gS : any (F := F) c bG ⊢ any (F := F) c gS := by
  refine BIBase.Entails.trans (any_unwhole c bG (View.set_whole _)) ?_
  iintro ⟨%f, H⟩
  iapply (any_whole c gS gS_set f); iexact H

/-- A device's buffers: the pieces its run works on and the rest, which it keeps. -/
theorem buf_split (f : Buf (Elt F) ((c : Thread nD τ).loc main_v1)) :
    iprop(argPts m c ∗ (((c : Thread nD τ).loc main_v1) ↦{fullShare} f) ∗ scratch (F := F) c) ⊢ iprop(bufPre m c ∗ keep m c) := by
  unfold argPts scratch bufPre keep
  rw [P_pieces, R_pieces, own_first c (fun k => bigSep Finset.univ fun j => at_ c (pC k j) fullShare (PX m c k j)), own_first c (fun k => at_ c (rC k) fullShare (RK m c k))]
  iintro ⟨⟨⟨P0, P⟩, ⟨R0, R⟩, G⟩, O, X, BR, BG, V, S⟩
  isplitr [P R]
  · isplitl [P0]; · iexact P0
    isplitl [R0]; · iexact R0
    isplitl [G]; · iapply (G_piece m c); iexact G
    isplitl [X]; · iapply (X_pieces (F := F) c); iexact X
    isplitl [BR]; · iexact BR
    isplitl [BG]; · iapply (bG_gS (F := F) c); iexact BG
    isplitl [S]; · iapply (S_pieces (F := F) c); iexact S
    isplitl [V]; · iapply (V_pieces (F := F) c); iexact V
    iapply (O_pieces (F := F) c)
    iapply (any_whole c mO (View.set_whole _) f); iexact O
  isplitl [P] <;> iassumption

/-- The pieces at the end and the rest are whole buffers again. -/
theorem buf_join : iprop(bufPost m c ∗ keep m c)
    ⊢ iprop(argPts m c ∗ (((c : Thread nD τ).loc main_v1) ↦{fullShare} (RES m c : Buf (Elt F) ((c : Thread nD τ).loc main_v1))) ∗ scratch (F := F) c) := by
  unfold argPts scratch bufPost keep
  rw [P_pieces, R_pieces, own_first c (fun k => bigSep Finset.univ fun j => at_ c (pC k j) fullShare (PX m c k j)), own_first c (fun k => at_ c (rC k) fullShare (RK m c k))]
  iintro ⟨⟨P0, R0, G, X, BR, BG, S, V, O⟩, P, R⟩
  isplitl [P0 P R0 R G]
  · isplitl [P0 P]
    · isplitl [P0] <;> iassumption
    isplitl [R0 R]
    · isplitl [R0]; · iexact R0
      iexact R
    iapply (G_whole m c); iexact G
  isplitl [O]; · iapply (O_whole m c); iexact O
  isplitl [X]; · iapply (X_whole (F := F) c); iexact X
  isplitl [BR]; · iexact BR
  isplitl [BG]; · iexact BG
  isplitl [V]; · iapply (V_whole (F := F) c); iexact V
  iapply (S_whole (F := F) c); iexact S

end Cert.ArLn

end
-- ==== Proof.Deal.lean ====
module

public import proofs.«01_k».proof.Proof.Pieces

@[expose] public section

/-! # Dealing out the semaphores

All semaphores of all devices are set up at once.  Each right to pay goes to the device that pays,
each promise of a payment to the device that waits for it. -/

noncomputable section

namespace Cert.ArLn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores of a device and of all devices -/

/-- A device's own semaphores, as the launch names them. -/
abbrev osem : Cell → SemLoc sig := fun x => .dma (dsem x)

/-- Every DMA semaphore belongs to the call. -/
theorem dma_scoped : ∀ n : Fin 106, (SemLoc.dma n : SemLoc sig).isScoped .tc = true := by decide +kernel
/-- Different names are different semaphores. -/
theorem osem_injective : Function.Injective osem := fun x y h => dsem_injective (SemLoc.dma.inj h)
/-- The call's own semaphores are these and no others. -/
theorem ownSemFacts : Pipeline.OwnSemFacts cfg0.spec osem := ⟨fun x => dma_scoped (dsem x), osem_injective, fun _ w => w.elim0⟩

/-- Different devices or names are different cells. -/
theorem cell_injective : Function.Injective fun p : Dev nD × Option Cell => cell p.1 p.2 := by
  rintro ⟨c, x⟩ ⟨c', x'⟩ h
  have h1 : c = c' := congrArg (fun g : GSem nD τ sig => g.1.1) h
  have h2 := congrArg Prod.snd h
  subst h1
  cases x with
  | none => cases x' with
    | none => rfl
    | some y => exact absurd h2 (fun e => by cases e)
  | some x => cases x' with
    | none => exact absurd h2 (fun e => by cases e)
    | some y => rw [dsem_injective (SemLoc.dma.inj h2)]

/-- The cells of the protocol. -/
def allCells : Finset (GSem nD τ sig) := Finset.univ.map ⟨fun p : Dev nD × Option Cell => cell p.1 p.2, cell_injective⟩

/-- The duties of a device's semaphores: one for each DMA semaphore, three for the barrier. -/
abbrev tokOf (p : Dev nD × (Cell ⊕ Fin 3)) : GSem nD τ sig × ℕ × Fin 3 :=
  match p.2 with
  | .inl x => (dcell p.1 x, 0, 0)
  | .inr i => (bcell p.1, 0, i)
/-- Different duties have different rights to pay. -/
theorem tokOf_injective : Function.Injective tokOf := by
  rintro ⟨c, x⟩ ⟨c', x'⟩ h
  have h1 : c = c' := by
    have := congrArg (fun g : GSem nD τ sig × ℕ × Fin 3 => g.1.1.1) h
    rcases x with x | x <;> rcases x' with x' | x' <;> exact this
  subst h1
  have h2 := congrArg (fun g : GSem nD τ sig × ℕ × Fin 3 => g.1.2) h
  have h3 := congrArg (fun g : GSem nD τ sig × ℕ × Fin 3 => g.2.2) h
  rcases x with x | x <;> rcases x' with x' | x'
  · rw [dsem_injective (SemLoc.dma.inj h2)]
  · exact absurd h2 (fun e => by cases e)
  · exact absurd h2 (fun e => by cases e)
  · rw [show x = x' from h3]
/-- The rights to pay. -/
def allToks : Finset (GSem nD τ sig × ℕ × Fin 3) := Finset.univ.map ⟨tokOf, tokOf_injective⟩

/-- What the launch starts from: the pipeline's own part and this protocol's. -/
def u₀ : UU := (initOf (Pipeline.cells cfgs cellOf_inj) (Pipeline.launchToks cfgs cellOf_inj), initOf allCells allToks)

/-- The barrier and the others. -/
theorem option_split (Φ : Option Cell → sProp 𝕄) : bigSep Finset.univ Φ = iprop((bigSep Finset.univ fun x => Φ (some x)) ∗ Φ none) := by
  rw [bigSep_univ_equiv (Equiv.optionEquivSumPUnit.{0} Cell).symm Φ, bigSep_univ_sum, Finset.univ_unique (α := PUnit), bigSep_singleton]
  rfl

/-- The rights to pay the semaphores of device `d`. -/
def toks (d : Dev nD) : sProp 𝕄 :=
  iprop((bigSep Finset.univ fun x => tok (F := F) d x) ∗ bigSep Finset.univ fun i : Fin 3 => dutyTok ER (bcell d) 0 i)
/-- What the launch gives device `c`. -/
def G (c : Dev nD) : sProp 𝕄 :=
  iprop((bigSep Finset.univ fun x => roundState ER (Rd (F := F) m) (cell c x) 0)
    ∗ (bigSep Finset.univ fun x => iprop(atPos ER (cell c x) 0 ∅ 0 ∗ reached ER (cell c x) 0)) ∗ toks (F := F) c)

/-- The initial state of the protocol, shared out among the devices. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x => Φ (cell c x) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum]; rfl
  iintro HX
  imod (Rounds.fund ER (Rd (F := F) m) allCells allToks) $$ HX with ⟨Hst, Hr, Hat, Htok⟩
  imodintro
  ihave Hst' := (Entails.of_eq (hX fun g => roundState ER (Rd (F := F) m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

/-- The barrier semaphore is the only one that outlives the call. -/
theorem unscopedSems0_eq (c : Dev nD) : (unscopedSems0 c : sProp 𝕄) = semVal (bcell c) 0 := by
  unfold unscopedSems0; rw [bigSep_eq_bigSepL_of_eq [SemLoc.reg bsem] (by decide +kernel) (by decide)]; rfl

/-- One device's semaphores at zero, put under their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv ER (Rd (F := F) m) κ (cell c x)))
          ∗ (bigSep Finset.univ fun x => iprop(atPos ER (cell c x) 0 ∅ 0 ∗ reached ER (cell c x) 0)) ∗ toks (F := F) c) := by
  have hs : iprop(Pipeline.ownSems0 (Ix := Unit) (Name := ℕ) (U := UU) (Lvl := ℕ) (Val := Elt F) (τ := τ) osem c ∗ unscopedSems0 c)
      ⊢ (bigSep Finset.univ fun x => semVal (cell c x) 0 : sProp 𝕄) := by
    rw [unscopedSems0_eq, option_split]; unfold Pipeline.ownSems0
    iintro ⟨H, H'⟩
    isplitl [H] <;> iassumption
  have hi : iprop((bigSep Finset.univ fun x => semVal (cell c x) 0) ∗ bigSep Finset.univ fun x => roundState ER (Rd (F := F) m) (cell c x) 0)
      ⊢ (|={Set.univ}=> bigSep Finset.univ fun x => iprop(∃ κ : ℕ, cellInv ER (Rd (F := F) m) κ (cell c x)) : sProp 𝕄) := by
    rw [← bigSep_sep']
    exact BIBase.Entails.trans (bigSep_mono fun x _ => BIBase.Entails.trans (Rounds.body_intro ER (Rd (F := F) m) (cell c x)) inv_alloc) (bigSep_fupd _ _)
  unfold G
  iintro ⟨Hos, Hus, Hst, Hat, Htok⟩
  ihave Hv := hs $$ [Hos Hus]
  · isplitl [Hos] <;> iassumption
  imod hi $$ [Hv Hst] with Hinv
  · isplitl [Hv] <;> iassumption
  imodintro
  isplitl [Hinv]; · iexact Hinv
  isplitl [Hat]; · iexact Hat
  iexact Htok

/-! ## To each device what it pays with -/

/-- The rights to pay that device `c` uses. -/
def payToks (c : Dev nD) : sProp 𝕄 :=
  iprop((bigSep Finset.univ fun x => tok (F := F) (payer x c) x) ∗ bigSep Finset.univ fun i : Fin 3 => dutyTok ER (bcell (nbr i c)) 0 i)

/-- Passing around a family of things, each by its own exchange of devices. -/
theorem deal {ι : Type} [Fintype ι] (e : ι → Dev nD → Dev nD) (he : ∀ i d, e i (e i d) = d) (Φ : Dev nD → ι → sProp 𝕄) :
    (bigSep Finset.univ fun d => bigSep Finset.univ fun i => Φ d i) = bigSep Finset.univ fun d => bigSep Finset.univ fun i => Φ (e i d) i := by
  rw [bigSep_univ_comm Φ, bigSep_univ_comm (fun d i => Φ (e i d) i)]
  exact bigSep_congr fun i _ => bigSep_univ_equiv (⟨e i, e i, he i, he i⟩ : Dev nD ≃ Dev nD) fun d => Φ d i

/-- The rights to pay, listed by who is paid, are those listed by who pays. -/
theorem toks_dealt : (bigSep Finset.univ fun c : Dev nD => toks (F := F) c) = bigSep Finset.univ fun c : Dev nD => payToks (F := F) c := by
  unfold toks payToks
  rw [bigSep_sep', bigSep_sep', deal (ι := Cell) payer payer_payer (fun d x => tok (F := F) d x),
    deal (ι := Fin 3) nbr nbr_nbr (fun d i => (dutyTok ER (bcell d) 0 i : sProp 𝕄))]

/-- The invariants and marks, for everyone. -/
def records (K : Dev nD × Option Cell → ℕ) : sProp 𝕄 :=
  iprop((bigSep Finset.univ fun p : Dev nD × Option Cell => cellInv ER (Rd (F := F) m) (K p) (cell p.1 p.2))
    ∗ (bigSep Finset.univ fun p : Dev nD × Option Cell => reached ER (cell p.1 p.2) 0))
/-- Everyone may keep a copy of the records. -/
instance records_persistent (K : Dev nD × Option Cell → ℕ) : BI.Persistent (records m K) := by unfold records; infer_instance

/-- What a device starts with, its promises of payments apart. -/
def own₀ (c : Dev nD) : sProp 𝕄 := iprop((bigSep Finset.univ fun x => atPos ER (cell c x) 0 ∅ 0) ∗ payToks (F := F) c)
/-- What a device takes into its run: the records under some names, and its own rights. -/
def G' (c : Dev nD) : sProp 𝕄 := iprop(∃ K, records m K ∗ own₀ (F := F) c)

/-- The devices' invariants, collected and handed to everyone; the rights, handed to those who use them. -/
theorem regroup :
    (bigSep Finset.univ fun c : Dev nD => iprop((bigSep Finset.univ fun x => iprop(∃ κ : ℕ, cellInv ER (Rd (F := F) m) κ (cell c x)))
          ∗ (bigSep Finset.univ fun x => iprop(atPos ER (cell c x) 0 ∅ 0 ∗ reached ER (cell c x) 0)) ∗ toks (F := F) c) : sProp 𝕄)
      ⊢ bigSep Finset.univ (G' m) := by
  rw [bigSep_sep', bigSep_sep', ← bigSep_univ_prod (fun p : Dev nD × Option Cell => iprop(∃ κ : ℕ, cellInv ER (Rd (F := F) m) κ (cell p.1 p.2))),
    bigSep_congr (s := Finset.univ) (fun (c : Dev nD) _ => bigSep_sep' Finset.univ (fun x => (atPos ER (cell c x) 0 ∅ 0 : sProp 𝕄)) (fun x => reached ER (cell c x) 0)),
    bigSep_sep', ← bigSep_univ_prod (fun p : Dev nD × Option Cell => (reached ER (cell p.1 p.2) 0 : sProp 𝕄)), toks_dealt]
  iintro ⟨HI, ⟨Hat, HR⟩, Htok⟩
  ihave HK := (BI.bigSep_exists_pi Finset.univ (fun (p : Dev nD × Option Cell) (κ : ℕ) => (cellInv ER (Rd (F := F) m) κ (cell p.1 p.2) : sProp 𝕄))) $$ HI
  icases HK with ⟨%K, HI⟩
  have h : iprop(records m K ∗ bigSep Finset.univ fun c : Dev nD => own₀ (F := F) c) ⊢ bigSep Finset.univ (G' m) := by
    refine BIBase.Entails.trans (sep_mono_left (BI.bigSep_of_persistent (Finset.univ : Finset (Dev nD)) (records m K))) ?_
    rw [← bigSep_sep']
    refine bigSep_mono fun c _ => ?_
    show iprop(records m K ∗ own₀ (F := F) c) ⊢ G' m c
    unfold G'
    iintro H; iexists K; iexact H
  iapply h
  isplitl [HI HR]
  · unfold records; isplitl [HI]; · iexact HI
    iexact HR
  unfold own₀
  rw [bigSep_sep']
  isplitl [Hat]; · iexact Hat
  iexact Htok

/-- Everything about the semaphores, set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  BIBase.Entails.trans (BIBase.Entails.trans (bigSep_mono fun c _ => core_alloc m c) (bigSep_fupd _ _)) (BI.fupd_mono (regroup m))

/-! ## The promised payments -/

/-- The payments from other devices that device `c` waits for. -/
def give (c : Dev nD) : Cell → sProp 𝕄
  | .rsR j => cred (tallyAt (dcell c (.rsR j)) () (amt (.rsR j)))
  | .r1 a j => cred (tallyAt (dcell c (.r1 a j)) () (amt (.r1 a j)))
  | .r2 j => cred (tallyAt (dcell c (.r2 j)) () (amt (.r2 j)))
  | _ => iprop(emp)

/-- A debt to one barrier is none to another. -/
theorem tally_bar (d c : Dev nD) (n : ℕ) : (tallyAt (bcell d) () n : CellTallies nD τ sig Unit) (bcell c) () = if c = d then n else 0 := by
  rw [tallyAt_apply]
  by_cases h : c = d
  · subst h; simp
  · rw [if_neg h, if_neg (fun e => h (congrArg (fun g : GSem nD τ sig => g.1.1) e.1))]
/-- A debt to a barrier is none to a DMA semaphore. -/
theorem tally_bar_dma (d c : Dev nD) (x : Cell) (n : ℕ) : (tallyAt (bcell d) () n : CellTallies nD τ sig Unit) (dcell c x) () = 0 := by
  rw [tallyAt_apply, if_neg (fun e => by have := congrArg Prod.snd e.1; cases this)]
/-- A debt to a DMA semaphore is none to a barrier. -/
theorem due_bar (d c : Dev nD) (x : Cell) : (due d x) (bcell c) () = 0 := by
  unfold due
  rw [tallyAt_apply, if_neg (fun e => by have := congrArg Prod.snd e.1; cases this)]
/-- A debt to one DMA semaphore is none to another. -/
theorem due_dma (d c : Dev nD) (x y : Cell) : (due d x) (dcell c y) () = if y = x then (if c = d then amt x else 0) else 0 := by
  unfold due
  rw [tallyAt_apply]
  by_cases h : y = x
  · subst h
    rw [if_pos rfl]
    by_cases h' : c = d
    · subst h'; simp
    · rw [if_neg h', if_neg (fun e => h' (congrArg (fun g : GSem nD τ sig => g.1.1) e.1))]
  · rw [if_neg h, if_neg (fun e => h (dsem_injective (SemLoc.dma.inj (congrArg Prod.snd e.1))))]

/-- Of the devices, one has `c` as its neighbour. -/
theorem sum_nbr (f : Dev nD → Dev nD) (hf : ∀ d, f (f d) = d) (c : Dev nD) (n : ℕ) : (∑ d : Dev nD, if c = f d then n else 0) = n := by
  have h (d : Dev nD) : (c = f d) = (d = f c) := propext ⟨fun e => by rw [e, hf], fun e => by rw [e, hf]⟩
  simp only [h, Finset.sum_ite_eq', Finset.mem_univ, if_true]

/-- All that a device owes to one semaphore, summand by summand. -/
theorem O₀_at (d : Dev nD) (g : GSem nD τ sig) : O₀ d g () = (tallyAt (bcell (xDev d)) () 1 : CellTallies nD τ sig Unit) g ()
    + ((tallyAt (bcell (aDev .y d)) () 1 : CellTallies nD τ sig Unit) g () + ((tallyAt (bcell (aDev .z d)) () 1 : CellTallies nD τ sig Unit) g ()
    + ((∑ j, (due (xDev d) (.rsR j)) g ()) + ((∑ j, ((due (aDev .y d) (.r1 .y j)) g () + (due (aDev .z d) (.r1 .z j)) g ()))
      + (∑ j, (due (aDev (axOf j) d) (.r2 j)) g ()))))) := by
  unfold O₀
  simp only [Pi.add_apply, Finsupp.add_apply, Finset.sum_apply, Finsupp.finset_sum_apply, Pi.zero_apply, Finsupp.zero_apply, Nat.add_zero]

/-- If the devices together owe `n` to a semaphore, the launch promises it `n`. -/
theorem launch_tally (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- A barrier is owed three signals. -/
theorem owed_bar (c : Dev nD) : (∑ d : Dev nD, O₀ d (bcell c) ()) = 3 := by
  simp only [O₀_at, tally_bar, due_bar, Finset.sum_const_zero, Nat.add_zero, Finset.sum_add_distrib]
  rw [sum_nbr xDev xDev_xDev, sum_nbr (aDev .y) (aDev_aDev .y), sum_nbr (aDev .z) (aDev_aDev .z)]; rfl
/-- The semaphore of a chunk from across `x` is owed that chunk. -/
theorem owed_rsR (c : Dev nD) (k : Fin 8) : (∑ d : Dev nD, O₀ d (dcell c (.rsR k)) ()) = amt (.rsR k) := by
  simp only [O₀_at, tally_bar_dma, due_dma, Cell.rsR.injEq, reduceCtorEq, if_false, Finset.sum_const_zero, Nat.add_zero, Nat.zero_add,
    Finset.sum_ite_eq, Finset.mem_univ, if_true]
  exact sum_nbr xDev xDev_xDev c _
/-- The semaphore of a neighbour's finished chunk is owed that chunk. -/
theorem owed_r1 (c : Dev nD) (a : Ax) (k : Fin 8) : (∑ d : Dev nD, O₀ d (dcell c (.r1 a k)) ()) = amt (.r1 a k) := by
  cases a
  · simp only [O₀_at, tally_bar_dma, due_dma, Cell.r1.injEq, reduceCtorEq, true_and, false_and, if_false, Finset.sum_const_zero, Nat.add_zero,
      Nat.zero_add, Finset.sum_ite_eq, Finset.mem_univ, if_true]
    exact sum_nbr (aDev .y) (aDev_aDev .y) c _
  · simp only [O₀_at, tally_bar_dma, due_dma, Cell.r1.injEq, reduceCtorEq, true_and, false_and, if_false, Finset.sum_const_zero, Nat.add_zero,
      Nat.zero_add, Finset.sum_ite_eq, Finset.mem_univ, if_true]
    exact sum_nbr (aDev .z) (aDev_aDev .z) c _
/-- The semaphore of a forwarded chunk is owed that chunk. -/
theorem owed_r2 (c : Dev nD) (k : Fin 8) : (∑ d : Dev nD, O₀ d (dcell c (.r2 k)) ()) = amt (.r2 k) := by
  simp only [O₀_at, tally_bar_dma, due_dma, Cell.r2.injEq, reduceCtorEq, if_false, Finset.sum_const_zero, Nat.add_zero, Nat.zero_add,
    Finset.sum_ite_eq, Finset.mem_univ, if_true]
  exact sum_nbr (aDev (axOf k)) (aDev_aDev (axOf k)) c _

/-- What the launch promises a DMA semaphore is what its device waits for. -/
theorem give_intro (c : Dev nD) (x : Cell) :
    (cred (tallyOn (dcell c x) (launchCredit (Pipeline.owing O₀) 0 (dcell c x))) : sProp 𝕄) ⊢ give (F := F) c x := by
  cases x with
  | rsR j => rw [launch_tally _ _ (owed_rsR c j)]; unfold give; iintro H; iexact H
  | r1 a j => rw [launch_tally _ _ (owed_r1 c a j)]; unfold give; iintro H; iexact H
  | r2 j => rw [launch_tally _ _ (owed_r2 c j)]; unfold give; iintro H; iexact H
  | _ => unfold give; iintro -; iempintro

/-- All that the launch promises a device: its DMA semaphores' payments and its three signals. -/
theorem creds (c : Dev nD) :
    (Pipeline.launchCred O₀ c : sProp 𝕄) ⊢ iprop((bigSep Finset.univ fun x => give (F := F) c x) ∗ cred (tallyAt (bcell c) () 3)) := by
  have hsub : Finset.univ.map ⟨osem, osem_injective⟩ ⊆ Finset.univ.erase (SemLoc.reg bsem : SemLoc sig) := fun s hs => by
    obtain ⟨x, -, rfl⟩ := Finset.mem_map.mp hs
    exact Finset.mem_erase.mpr ⟨(fun e => by cases e), Finset.mem_univ _⟩
  have hcells : (bigSep (Finset.univ.erase (SemLoc.reg bsem : SemLoc sig)) fun sm =>
        (cred (tallyOn ((c : Thread nD τ), sm) (launchCredit (Pipeline.owing O₀) 0 ((c : Thread nD τ), sm))) : sProp 𝕄))
      ⊢ bigSep Finset.univ fun x => give (F := F) c x := by
    refine BIBase.Entails.trans (bigSep_subset hsub) ?_
    rw [bigSep_map]
    exact bigSep_mono fun x _ => give_intro (F := F) c x
  unfold Pipeline.launchCred
  rw [bigSep_univ_at _ (SemLoc.reg bsem), launch_tally _ _ (owed_bar c)]
  iintro ⟨HB, H⟩
  isplitl [H]
  · iapply hcells; iexact H
  iexact HB

/-- With its promised payments a device's semaphores are as its run begins. -/
theorem cell_start (c : Dev nD) (x : Cell) :
    iprop(tok (F := F) (payer x c) x ∗ atPos ER (dcell c x) 0 ∅ 0 ∗ give (F := F) c x) ⊢ cellPre (F := F) c x := by
  cases x <;> (unfold cellPre give; try unfold pend) <;> (try unfold idle) <;> (unfold tok payer) <;>
    (iintro ⟨H1, H2, H3⟩; isplitl [H1]; · iexact H1) <;> first | (isplitl [H3] <;> iassumption) | iexact H2

/-- A device's rights and promises, as its run begins with them. -/
theorem start_cells (c : Dev nD) :
    iprop(own₀ (F := F) c ∗ (bigSep Finset.univ fun x => give (F := F) c x) ∗ cred (tallyAt (bcell c) () 3))
      ⊢ iprop((bigSep Finset.univ fun x => cellPre (F := F) c x) ∗ barPre (F := F) c) := by
  have h : iprop((bigSep Finset.univ fun x => tok (F := F) (payer x c) x) ∗ (bigSep Finset.univ fun x => atPos ER (dcell c x) 0 ∅ 0) ∗ (bigSep Finset.univ fun x => give (F := F) c x))
      ⊢ bigSep Finset.univ fun x => cellPre (F := F) c x := by
    rw [← bigSep_sep', ← bigSep_sep']
    exact bigSep_mono fun x _ => cell_start c x
  unfold own₀ payToks barPre
  rw [option_split, bigSep_univ_eq_bigSepL (I := Fin 3) [0, 1, 2] (by decide) (by decide)]
  simp only [bigSepL_cons_cons, bigSepL_singleton]
  show iprop((((bigSep Finset.univ fun x => atPos ER (dcell c x) 0 ∅ 0) ∗ atPos ER (bcell c) 0 ∅ 0) ∗ (bigSep Finset.univ fun x => tok (F := F) (payer x c) x)
    ∗ dutyTok ER (bcell (xDev c)) 0 0 ∗ dutyTok ER (bcell (aDev .y c)) 0 1 ∗ dutyTok ER (bcell (aDev .z c)) 0 2) ∗ _) ⊢ _
  iintro ⟨⟨⟨Ha, Hb⟩, Ht, H0, H1, H2⟩, Hg, Hc⟩
  isplitl [Ha Ht Hg]
  · iapply h
    isplitl [Ht]; · iexact Ht
    isplitl [Ha] <;> iassumption
  isplitl [H0 H1 H2]
  · isplitl [H0]; · iexact H0
    isplitl [H1] <;> iassumption
  isplitl [Hc] <;> iassumption

end Cert.ArLn

end
-- ==== Proof.BodyEq.lean ====
module

public import proofs.«01_k».proof.Proof.Prog

@[expose] public section

/-! # The printed body is the loops

`cc0_body`, as the pipeline calls it, unfolds operation by operation to `bodyOn`. -/

noncomputable section

namespace Cert.ArLn

open Idealize.ShloMosaic Idealize.ShloMosaic.TcCoe Idealize.SL.Sem
open Cert.KernelIdeal Cert.KernelIdeal.Gen

variable {F : FTy → Type} [FloatOps F]

set_option maxRecDepth 65536 in
set_option maxHeartbeats 4000000 in
/-- The printed body is the loops. -/
theorem body_eq (t : Fin cfg0.N) :
    defs₀ (F := F) .tc 0 (t, fun w => w.elim0) = (Prog.lift .deviceId >>= bodyOn) := rfl

end Cert.ArLn

end
-- ==== Proof.Launch.lean ====
module

public import proofs.«01_k».proof.Proof.Deal
public import proofs.«01_k».proof.Proof.BodyEq
public import Idealize.ShloMosaic.Lib.Pipeline.Quiescent

@[expose] public section

/-! # The run

From any memory the kernel ends with every device's result at the computed rows, its arguments
unchanged and every semaphore at zero. -/

noncomputable section

namespace Cert.ArLn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg) (c : Dev nD)

/-- What a device begins with. -/
def start : sProp 𝕄 :=
  iprop((∃ K, ctx m K ∗ (bigSep Finset.univ fun x => cellPre (F := F) c x) ∗ barPre (F := F) c)
    ∗ argPts m c ∗ (((c : Thread nD τ).loc main_v1) ↦{fullShare} m ((c : Thread nD τ).loc main_v1)))
/-- The result in place. -/
def resPt : sProp 𝕄 := iprop(((c : Thread nD τ).loc main_v1) ↦{fullShare} (RES m c : Buf (Elt F) ((c : Thread nD τ).loc main_v1)))
/-- What the call begins with: the device's start and the scratch buffers. -/
def Φ₀ : sProp 𝕄 := iprop(start m c ∗ scratch (F := F) c)
/-- What it ends with: every semaphore at zero, the arguments, the result and the scratch buffers. -/
def Φ₁ : sProp 𝕄 := iprop((bigSep Finset.univ fun x => fin (F := F) c x) ∗ semVal (bcell c) 0 ∗ argPts m c ∗ resPt m c ∗ scratch (F := F) c)

/-- The call's data: no windows, one step. -/
def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The body takes a device from its beginning to its end. -/
theorem body_run (R : PUnit → sProp 𝕄) :
    iprop(Φ₀ m c ∗ ow (F := F) c (O₀ c)) ⊢ iprop((iprop(Φ₁ m c ∗ ow (F := F) c 0) -∗ R ⟨⟩) -∗ wpT (F := F) c (bodyOn c) R) := by
  unfold Φ₀ Φ₁ start resPt
  iintro ⟨⟨⟨⟨%K, #Hc, Hx, Hb⟩, Ha, Hv⟩, Hs⟩, Hw⟩ Hk
  ihave H := (buf_split m c _) $$ [Ha Hv Hs]
  · isplitl [Ha]; · iexact Ha
    isplitl [Hv] <;> iassumption
  icases H with ⟨Hbuf, Hkeep⟩
  iapply ((body_T m K c).use m K R) $$ [Hx Hb Hbuf Hw]
  · isplitr; · iexact Hc
    isplitl [Hx]; · iexact Hx
    isplitl [Hb]; · iexact Hb
    isplitl [Hbuf] <;> iassumption
  iintro ⟨Hf, Hz, Hbuf, Hw⟩
  iapply Hk
  isplitr [Hw]
  · isplitl [Hf]; · iexact Hf
    isplitl [Hz]; · iexact Hz
    iapply (buf_join m c)
    isplitl [Hbuf] <;> iassumption
  iexact Hw

set_option maxRecDepth 65536 in
/-- The body's run, as the launch asks for it. -/
theorem body_obligation : Pipeline.BodyObligation (dats m 0 c) (defs₀ (F := F)) 𝒱₀ () Set.univ := fun t => by
  rw [fin_N0 t]
  have hn : (Finset.univ : Finset (Fin cfg0.W)) = ∅ := rfl
  rw [hn, bigSep_empty, bigSep_empty]
  show iprop(Φ₀ m c ∗ (dats m 0 c).owesAt () t0_0.castSucc ∗ emp) ⊢ wp frame (wpE (defs₀ (F := F)) 𝒱₀ (c : Thread nD τ) none) Set.univ
    (defs₀ (F := F) .tc 0 (t0_0, fun w => w.elim0)) fun _ => iprop(Φ₁ m c ∗ (dats m 0 c).owesAt () t0_0.succ ∗ emp)
  rw [body_eq]
  show _ ⊢ wp frame (wpE (defs₀ (F := F)) 𝒱₀ (c : Thread nD τ) none) Set.univ (Prog.op .deviceId fun d => bodyOn d) _
  rw [wp_deviceId]
  unfold Pipeline.Dat.owesAt Pipeline.owesWithin
  iintro ⟨HΦ, ⟨%W, -, HO⟩, -⟩
  iapply (body_run m c _) $$ [HΦ HO]
  · isplitl [HΦ]; · iexact HΦ
    unfold ow; iexists W; iexact HO
  unfold ow
  iintro ⟨HΦ, ⟨%W', HO⟩⟩
  isplitl [HΦ]; · iexact HΦ
  isplitl [HO]
  · iexists W'
    isplitr; · ipureintro; exact fun _ _ => Or.inl trivial
    iexact HO
  iempintro

/-! ## The launch's side conditions -/

/-- The device's start, from what the launch deals it. -/
theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start ctx argPts records
  iintro ⟨⟨H0, H1, H2, H3⟩, Hlev, Hcr, -, ⟨%K, ⟨HI, HR⟩, Hown⟩⟩
  ihave Hc := (creds (F := F) c) $$ Hcr
  ihave Hs := (start_cells (F := F) c) $$ [Hown Hc]
  · isplitl [Hown] <;> iassumption
  imodintro
  isplitl
  · isplitl [HI HR Hlev Hs]
    · iexists K
      isplitl [HI HR Hlev]
      · isplitl [HI]; · iexact HI
        isplitl [HR] <;> iassumption
      iexact Hs
    isplitr [H3]
    · isplitl [H0]; · iexact H0
      isplitl [H1] <;> iassumption
    iexact H3
  iempintro

/-- The call is entered with the start and the scratch buffers. -/
theorem enter :
    iprop(start m c ∗ Pipeline.prefHeld Pipeline.Prefetch.none c (fun _ => fullShare.right) (fun k => k.elim0) ∗ Pipeline.scopedRest cfg0.spec c)
      ⊢ (dats m 0 c).Φ 0 := by
  show _ ⊢ Φ₀ m c
  unfold Φ₀
  iintro ⟨Hs, -, Hr⟩
  isplitl [Hs]; · iexact Hs
  iapply (scratch_in (F := F) c); iexact Hr

/-- It is left with the semaphores at zero and the buffers given back. -/
theorem leave :
    (dats m 0 c).Φ (Fin.last cfg0.N) ⊢ iprop((semVal (bcell c) 0 ∗ argPts m c ∗ resPt m c) ∗ Pipeline.ownSems0 osem c ∗ Pipeline.scopedRest cfg0.spec c) := by
  show Φ₁ m c ⊢ _
  unfold Φ₁ Pipeline.ownSems0
  iintro ⟨Hf, Hz, Ha, Hv, Hs⟩
  isplitl [Hz Ha Hv]
  · isplitl [Hz]; · iexact Hz
    isplitl [Ha] <;> iassumption
  isplitl [Hf]; · iexact Hf
  iapply (scratch_out (F := F) c); iexact Hs

/-- What the final memory holds at device `c`. -/
def Final (s : MemSt nD τ sig (Elt F)) : Prop :=
  s.mem ((c : Thread nD τ).loc main_v1) = RES m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

/-- What the end says of the memory: result, arguments and counters. -/
theorem final_read (s' : Phys nD τ sig (Elt F)) :
    iprop((semVal (bcell c) 0 ∗ argPts m c ∗ resPt m c) ∗ emp ∗ SI s')
      ⊢ |={Set.univ}=> iprop(⌜Final m c s'.mem ∧ ∀ sm : SemLoc sig, sm.isScoped .tc = false → s'.mem.sem ((c.tc : Thread nD τ), sm) = 0⌝ ∗ SI s') := by
  unfold argPts resPt
  iintro ⟨⟨Hz, ⟨H0, H1, H2⟩, Hv⟩, -, HSI⟩
  icombine HSI H0 gives %h0
  icombine HSI H1 gives %h1
  icombine HSI H2 gives %h2
  icombine HSI Hv gives %hv
  ihave Hz := (Entails.of_eq (unscopedSems0_eq (F := F) c).symm) $$ Hz
  ihave %hs := (tcUnscoped_read c s') $$ [Hz HSI]
  · isplitl [Hz] <;> iassumption
  imodintro
  isplitr
  · ipureintro
    exact ⟨⟨Buf.eq_of_forall_mem_univ hv, Buf.eq_of_forall_mem_univ h0, Buf.eq_of_forall_mem_univ h1, Buf.eq_of_forall_mem_univ h2⟩, hs⟩
  iexact HSI

/-- The call's own windows wait for nothing, there are none. -/
theorem waits : (levAts L lv : sProp 𝕄) ⊢ Pipeline.cellsWaits cfgs (dats m) () 0 c :=
  Pipeline.cellsWaits_intro cfgs (dats m) () 0 c fun w => w.elim0

set_option maxRecDepth 8000 in
/-- From any memory with zero counters every weakly fair run of the eight devices ends, with the
    computed rows as every device's result, the arguments unchanged and every counter at zero. -/
theorem run_main : θ_run defs (onTc (τ := τ) (main (F := F))) ⟨m, fun _ => 0, ρ⟩
    (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := fun c => iprop(semVal (bcell c) 0 ∗ argPts m c ∗ resPt m c)) (Z := fun _ => iprop(emp))
    (hX := start_intro m ρ) (hin := enter m) (hout := leave m)
    (QY := fun c s => Final m c s ∧ ∀ sm : SemLoc sig, sm.isScoped .tc = false → s.sem ((c.tc : Thread nD τ), sm) = 0)
    (hY := final_read m)
    (hQ := fun _ h hs => ⟨fun c => (h c).2.2.1, sem_eq_zero hs fun c => (h c).2.2.2⟩)

end Cert.ArLn

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import Idealize.ShloMosaic.Lib.Quiescent

/-! # The frames

The run of the kernel is proved once, whatever the float values are.  Read at the machine's bit
patterns it is the run of the kernel as printed, read at the extended reals that of its ideal
reading; both leave the three arguments as they were and every semaphore at zero. -/
@[expose] public section

set_option maxRecDepth 65536

noncomputable section

namespace Cert.ArLn

open Idealize.ShloMosaic Idealize.ShloMosaic.TcCoe Idealize.SL.Sem

/-- The kernel's ideal reading ends on every device, with its arguments unchanged and every semaphore at zero. -/
theorem frame_KernelIdeal : Cert.quiescent_KernelIdeal := fun m ρ _ =>
  (θ_run Cert.KernelIdeal.defs _ _).mono (fun _ h => ⟨fun c => (h.1 c).2, h.2⟩) (run_main (F := Ideal) m ρ)

set_option maxHeartbeats 4000000 in
/-- So does the kernel as printed, on bit patterns. -/
theorem frame_Kernel : Cert.quiescent_Kernel := fun m ρ _ =>
  (θ_run Cert.KernelIdeal.defs _ _).mono (fun _ h => ⟨fun c => (h.1 c).2, h.2⟩) (run_main (F := Bits) m ρ)

/-- The reference ends with its arguments unchanged; it has no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.ArLn

end
-- ==== Proof.Equation.lean ====
module

public import Idealize.ShloMosaic.PureOps.Ideal.Laws
public import Idealize.ShloMosaic.Lib.IdealHost

/-! # One row, as an equation between extended reals

A row `y` of 512 numbers is divided by the root of its mean square (plus a small positive
constant) and scaled by the weights.  The reference divides the row and then scales it, the kernel
scales it by weights already divided.  The root is never zero, so the two agree, infinities
included. -/
@[expose] public section

noncomputable section

namespace Cert.ArLn

open Idealize.ShloMosaic

/-- The length of a row, as the constant of both programs denotes it. -/
abbrev len : EReal := Ideal.ofBits .f32 0x44000000#32
/-- The small constant under the root. -/
abbrev eps : EReal := Ideal.ofBits .f32 0x358637BD#32

/-- The root mean square of a row. -/
def rms (y : Fin 512 → EReal) : EReal := Ideal.sqrt (Ideal.div (∑ k, y k * y k) len + eps)

/-- The row's length is a positive real. -/
theorem len_eq : len = ((512 : ℝ) : EReal) := by
  simp [len, Ideal.ofBits, Ideal.ieee, -EReal.coe_mul]; norm_num

/-- The small constant is positive. -/
theorem eps_pos : 0 < eps := by
  simp [eps, Ideal.ofBits, Ideal.ieee, -EReal.coe_mul]

/-- A square is never negative. -/
theorem square_nonneg (x : EReal) : 0 ≤ x * x := by
  rcases le_total 0 x with h | h
  · exact mul_nonneg h h
  · have h' : 0 ≤ -x := by simpa using EReal.neg_le_neg_iff.mpr h
    simpa using mul_nonneg h' h'

/-- The root of a positive number is not zero. -/
theorem root_ne_zero {x : EReal} (h : 0 < x) : Ideal.sqrt x ≠ 0 := by
  induction x using EReal.rec with
  | bot => simp at h
  | top => exact EReal.top_ne_zero
  | coe r =>
    have hr : 0 < r := by exact_mod_cast h
    have hs := (Real.sqrt_pos.mpr hr).ne'
    have e : Ideal.sqrt (r : EReal) = ((Real.sqrt r : ℝ) : EReal) := if_neg hr.not_gt
    rw [e]; exact_mod_cast hs

/-- The root mean square is not zero, whatever the row. -/
theorem rms_ne_zero (y : Fin 512 → EReal) : rms y ≠ 0 := by
  refine root_ne_zero (lt_of_lt_of_le eps_pos (le_add_of_nonneg_left ?_))
  have h0 : len ≠ 0 := by rw [len_eq]; norm_num
  rw [Ideal.div, if_neg h0, len_eq]
  refine mul_nonneg (Finset.sum_nonneg fun k _ => square_nonneg (y k)) ?_
  exact EReal.inv_nonneg_of_nonneg (by norm_num)

/-- Scaling by a divided weight is dividing and then scaling. -/
theorem scale_div {r : EReal} (h : r ≠ 0) (y g : EReal) : y * Ideal.div g r = Ideal.div y r * g := by
  rw [Ideal.div, Ideal.div, if_neg h, if_neg h, mul_comm g, mul_assoc]

end Cert.ArLn

end
-- ==== Proof.Block.lean ====
module

public import proofs.«01_k».proof.Proof.Gen.KernelIdeal.Skeleton
public import proofs.«01_k».proof.Proof.Equation
public import Idealize.ShloMosaic.Lib.Pointwise

/-! # What one chunk of sixteen rows computes -/
@[expose] public section

set_option maxRecDepth 16384

noncomputable section

namespace Cert.ArLn

open Idealize.ShloMosaic Cert.KernelIdeal Cert.KernelIdeal.Gen

/-- Row `p` of a chunk before it is normalised: the two partial sums and the residual added. -/
def chunkRow (v w r : Vec Ideal S16x512 .f32) (p : Fin 16) : Fin 512 → EReal := fun q => v (ix2 p q) + w (ix2 p q) + r (ix2 p q)

/-- Entry `(p, q)` of a finished chunk: the row's entry times the weight divided by the row's root mean square. -/
theorem chunk_apply (v w r : Vec Ideal S16x512 .f32) (g : Vec Ideal S1x512 .f32) (p : Fin 16) (q : Fin 512) :
    k0_pay12 v w r g (ix2 p q) = chunkRow v w r p q * Ideal.div (g (ix2 0 q)) (rms (chunkRow v w r p)) := by
  pointwise [k0_pay12]
  rfl

end Cert.ArLn

end
-- ==== Proof.Result.lean ====
module

public import proofs.«01_k».proof.Proof.Pieces
public import proofs.«01_k».proof.Proof.Block
public import Idealize.ShloMosaic.Lib.Layout

/-! # What the result holds

Every row of the result was computed by one device: the owner of the quarter the row lies in, from
its own rows of the partial sum, those of the device across the `x` axis, its residual and its
weights. -/
@[expose] public section

set_option maxRecDepth 16384

noncomputable section

namespace Cert.ArLn

open Cert.KernelIdeal Cert.KernelIdeal.Gen
open Idealize.ShloMosaic Idealize.ShloMosaic.TcCoe

variable (m : (ℓ : Loc nD τ sig) → Buf (Elt Ideal) ℓ)

/-- Device `d`'s partial sum. -/
abbrev partOf (d : Dev nD) : Vec Ideal S1x512x512 .f32 := m ((d : Thread nD τ).loc main_arg0)
/-- Its residual. -/
abbrev residOf (d : Dev nD) : Vec Ideal S512x512 .f32 := m ((d : Thread nD τ).loc main_arg1)
/-- Its weights. -/
abbrev weightOf (d : Dev nD) : Vec Ideal S512 .f32 := m ((d : Thread nD τ).loc main_arg2)

/-- The row of the array that is row `p` of chunk `j` of quarter `k`. -/
def rowOf (k : Fin 4) (j : Fin 8) (p : Fin 16) : Fin 512 := ⟨128 * k.val + 16 * j.val + p.val, by omega⟩

/-- Dropping the axis of extent one of a chunk keeps its rows and columns. -/
theorem chunk_squeeze (p : Fin 16) (q : Fin 512) :
    Shape.reshapeEquiv squeezes_S1x16x512_S16x512.numel_eq (ix2 p q) = ix3 0 p q := by
  pointwise

/-- A chunk of a partial sum, entry by entry. -/
theorem PX_apply (d : Dev nD) (k : Fin 4) (j : Fin 8) (p : Fin 16) (q : Fin 512) :
    PX m d k j (ix2 p q) = partOf m d (ix3 0 (rowOf k j p) q) := by
  show partOf m d ((Rect.unit (s := S1x512x512) ![0, 128 * k.val + 16 * j.val, 0] S1x16x512.size (inbP k j)).emb
    (Shape.reshapeEquiv squeezes_S1x16x512_S16x512.numel_eq (ix2 p q))) = _
  rw [chunk_squeeze]
  refine congrArg _ (funext fun a => Fin.ext ?_)
  match a with
  | ⟨0, _⟩ => rfl
  | ⟨1, _⟩ => exact (by omega : 128 * k.val + 16 * j.val + 1 * p.val = 128 * k.val + 16 * j.val + p.val)
  | ⟨2, _⟩ => exact (by omega : 0 + 1 * q.val = q.val)

/-- A chunk of a device's own quarter of the residual, entry by entry. -/
theorem RXc_apply (d : Dev nD) (j : Fin 8) (p : Fin 16) (q : Fin 512) :
    RXc m d j (ix2 p q) = residOf m d (ix2 (rowOf (quarter d 0) j p) q) := by
  show residOf m d _ = _
  refine congrArg _ (funext fun a => Fin.ext ?_)
  match a with
  | ⟨0, _⟩ =>
    exact (by omega : 128 * (quarter d 0).val + 1 * (16 * j.val + 1 * p.val) = 128 * (quarter d 0).val + 16 * j.val + p.val)
  | ⟨1, _⟩ => exact (by omega : 0 + 1 * (0 + 1 * q.val) = q.val)

/-- The weights as a one-row matrix, entry by entry. -/
theorem GX1_apply (d : Dev nD) (q : Fin 512) : GX1 m d (ix2 0 q) = weightOf m d (ix1 q) := by
  show weightOf m d _ = _
  refine congrArg _ (funext fun a => ?_)
  match a with
  | ⟨0, _⟩ => rfl

/-- A row as one device has it before normalising: its own partial sum, that of the device across `x`, and its residual. -/
def devRow (d : Dev nD) (i : Fin 512) : Fin 512 → EReal := fun q =>
  partOf m d (ix3 0 i q) + partOf m (xDev d) (ix3 0 i q) + residOf m d (ix2 i q)

/-- A finished chunk, entry by entry. -/
theorem blk_apply (d : Dev nD) (j : Fin 8) (p : Fin 16) (q : Fin 512) :
    blk m d j (ix2 p q) = devRow m d (rowOf (quarter d 0) j p) q
      * Ideal.div (weightOf m d (ix1 q)) (rms (devRow m d (rowOf (quarter d 0) j p))) := by
  have e : chunkRow (PX m d (quarter d 0) j) (PX m (xDev d) (quarter d 0) j) (RXc m d j) p = devRow m d (rowOf (quarter d 0) j p) := by
    funext q; unfold chunkRow devRow; rw [PX_apply, PX_apply, RXc_apply]
  unfold blk
  rw [chunk_apply, e, GX1_apply]

/-- Rows of quarter `k` are the owner's rows. -/
theorem quarter_ownerOf : ∀ (d : Dev nD) (k : Fin 4), quarter (ownerOf d k) 0 = k := by decide +kernel

/-- The device that computes row `i` of device `c`'s result. -/
def maker (c : Dev nD) (i : Fin 512) : Dev nD := ownerOf c ⟨i.val / 128, by omega⟩

/-- The result on a device, entry by entry. -/
theorem RES_apply (c : Dev nD) (i q : Fin 512) :
    RES m c (ix2 i q) = devRow m (maker c i) i q * Ideal.div (weightOf m (maker c i) (ix1 q)) (rms (devRow m (maker c i) i)) := by
  have hi : rowOf ⟨i.val / 128, by omega⟩ ⟨i.val % 128 / 16, by omega⟩ ⟨i.val % 16, by omega⟩ = i := by
    refine Fin.ext ?_; simp only [rowOf]; omega
  have h := blk_apply m (maker c i) ⟨i.val % 128 / 16, by omega⟩ ⟨i.val % 16, by omega⟩ q
  rw [maker, quarter_ownerOf, hi] at h
  refine Eq.trans ?_ h
  unfold RES OUT
  refine congrArg _ (funext fun a => ?_)
  match a with
  | ⟨0, _⟩ => rfl
  | ⟨1, _⟩ => rfl

/-! ## Against the whole arrays -/

variable (x : Vec Ideal ⟨3, ![2, 512, 512]⟩ .f32) (r : Vec Ideal S512x512 .f32) (g : Vec Ideal S512 .f32)

/-- Every device holds the stacked partial sum of its `x` coordinate. -/
theorem part_block (d : Dev nD) (h : partOf m d = Layout.blockN ⟨3, ![1, 512, 512]⟩ ⟨3, ![2, 512, 512]⟩ (Layout.meshBlock [2, 2, 2] ![[0], [], []] d) x)
    (i q : Fin 512) : partOf m d (ix3 0 i q) = x (ix3 ⟨d.val / 4, by have hd : d.val < 8 := d.isLt; omega⟩ i q) := by
  have hd : d.val < 8 := d.isLt
  rw [h, Layout.blockN_apply]
  refine congrArg x (funext fun a => Fin.ext ?_)
  match a with
  | ⟨0, _⟩ => exact (by omega : (d.val / (2 * (2 * 1)) % 2 * 1 + 0) * 1 + 0 = d.val / 4)
  | ⟨1, _⟩ => exact (by omega : 0 * 512 + i.val = i.val)
  | ⟨2, _⟩ => exact (by omega : 0 * 512 + q.val = q.val)

/-- The two partial sums a device adds are those of the two `x` coordinates, in one order or the other. -/
theorem two_parts (h : ∀ d, partOf m d = Layout.blockN ⟨3, ![1, 512, 512]⟩ ⟨3, ![2, 512, 512]⟩ (Layout.meshBlock [2, 2, 2] ![[0], [], []] d) x)
    (d : Dev nD) (i q : Fin 512) : partOf m d (ix3 0 i q) + partOf m (xDev d) (ix3 0 i q) = x (ix3 0 i q) + x (ix3 1 i q) := by
  have hx : ∀ d : Dev nD, (d.val / 4 = 0 ∧ (xDev d).val / 4 = 1) ∨ (d.val / 4 = 1 ∧ (xDev d).val / 4 = 0) := by decide +kernel
  rw [part_block m x d (h d), part_block m x (xDev d) (h (xDev d))]
  rcases hx d with ⟨h1, h2⟩ | ⟨h1, h2⟩
  · simp only [h1, h2]; rfl
  · simp only [h1, h2]; exact add_comm _ _

end Cert.ArLn

end
-- ==== Proof.Reference.lean ====
module

public import proofs.«01_k».proof.Proof.Gen.ReferenceIdeal.Run
public import proofs.«01_k».proof.Proof.Equation
public import Idealize.ShloMosaic.Lib.Pointwise

/-! # What the reference computes -/
@[expose] public section

set_option maxRecDepth 16384

noncomputable section

namespace Cert.ArLn

open Idealize.ShloMosaic Cert.ReferenceIdeal Cert.ReferenceIdeal.Gen

/-- The reference's result, of the stacked partial sums, the residual and the weights. -/
def refVal (x : FVec Ideal S2x512x512 .f32) (r : FVec Ideal S512x512 .f32) (g : FVec Ideal S512 .f32) : FVec Ideal S512x512 .f32 :=
  let y := addf (Host.reduceAdd x (constant S_ .f32 0x00000000#32) reducesTo_S2x512x512_S512x512_d0 h_S_) r
  mulf (Host.divf y (broadcastInDim S512x512 ![0, 1] bcast_S512x1_S512x512_0_1
      (Host.sqrt (addf (Host.divf (broadcastInDim S512x1 ![0] bcast_S512_S512x1_0
          (Host.reduceAdd (mulf y y) (constant S_ .f32 0x00000000#32) reducesTo_S512x512_S512_d1 h_S_))
        (broadcastInDim S512x1 ![] bcast_S_S512x1 (constant S_ .f32 0x44000000#32)))
        (broadcastInDim S512x1 ![] bcast_S_S512x1 (constant S_ .f32 0x358637BD#32))))))
    (broadcastInDim S512x512 ![0, 1] bcast_S1x512_S512x512_0_1 (broadcastInDim S1x512 ![1] bcast_S512_S1x512_1 g))

/-- Row `i` of the array to be normalised: the two partial sums and the residual added. -/
def sumRow (x : FVec Ideal S2x512x512 .f32) (r : FVec Ideal S512x512 .f32) (i : Fin 512) : Fin 512 → EReal :=
  fun q => x (ix3 0 i q) + x (ix3 1 i q) + r (ix2 i q)

/-- Entry `(i, q)` of the reference's result: the row's entry divided by the row's root mean square, times the weight. -/
theorem ref_apply (x : FVec Ideal S2x512x512 .f32) (r : FVec Ideal S512x512 .f32) (g : FVec Ideal S512 .f32) (i q : Fin 512) :
    refVal x r g (ix2 i q) = Ideal.div (sumRow x r i q) (rms (sumRow x r i)) * g (ix1 q) := by
  unfold refVal
  pointwise
  simp only [Fin.sum_univ_two]
  rfl

end Cert.ArLn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Result
public import proofs.«01_k».proof.Proof.Reference

@[expose] public section

noncomputable section

namespace Cert.Proof

open Idealize.ShloMosaic Idealize.SL.Sem Cert.ArLn

/-- Every device's result is the reference's: each row is normalised from the same sum, wherever it was computed. -/
theorem result_eq (m : (ℓ : Loc Cert.KernelIdeal.nD Cert.KernelIdeal.τ Cert.KernelIdeal.sig) → Buf (Elt Ideal) ℓ)
    (x : FVec Ideal Cert.ReferenceIdeal.S2x512x512 .f32) (r : FVec Ideal Cert.ReferenceIdeal.S512x512 .f32)
    (g : FVec Ideal Cert.ReferenceIdeal.S512 .f32)
    (hx : ∀ d, partOf m d = Layout.blockN ⟨3, ![1, 512, 512]⟩ ⟨3, ![2, 512, 512]⟩ (Layout.meshBlock [2, 2, 2] ![[0], [], []] d) x)
    (hr : ∀ d, residOf m d = r) (hg : ∀ d, weightOf m d = g) (c : Dev Cert.KernelIdeal.nD) : RES m c = refVal x r g := by
  have row : ∀ d i, devRow m d i = sumRow x r i := fun d i => by
    funext q; unfold devRow sumRow; rw [two_parts m x hx, hr]
  funext i
  obtain ⟨a, b, rfl⟩ : ∃ a b : Fin 512, i = ix2 a b := ⟨i 0, i 1, eq_ix2 i⟩
  rw [RES_apply, ref_apply, row, hg]
  exact scale_div (rms_ne_zero _) _ _

/-- The kernel's ideal reading and the reference end with equal results. -/
theorem algebraic : Cert.algebraic_KernelIdeal_ReferenceIdeal := by
  intro m ρ m' ρ' _ h
  refine ⟨refVal _ _ _, (θ_run Cert.KernelIdeal.defs _ _).mono (fun _ hk c => ?_) (run_main (F := Ideal) m ρ),
    (θ_run Cert.ReferenceIdeal.defs _ _).mono (fun _ hk => hk 0) (Cert.ReferenceIdeal.Value.run m' ρ')⟩
  exact ⟨(hk.1 c).1.trans (result_eq m _ _ _ (fun d => (h d).1) (fun d => (h d).2.1) (fun d => (h d).2.2) c), (hk.1 c).2⟩

/-- The five claims. -/
theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
